-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x128x50000 : Shape := ⟨3, ![4, 128, 50000]⟩
abbrev S8x12500 : Shape := ⟨2, ![8, 12500]⟩
abbrev S_ : Shape := ⟨0, ![]⟩

class Facts : Prop where
  bcast_S_S8x12500 : S_.BroadcastsInDim S8x12500 (![] : Fin 0 → Fin S8x12500.rank)
  reducesTo_S8x12500_S_d0_1 : S8x12500.ReducesTo [0, 1] S_
  h_S_ : 0 < S_.numel

variable [Facts]

def fn {F : FTy → Type} [FloatOps F] (main_arg0 : FVec F S4x128x50000 .f32) (main_arg1 : IVec S8x12500 32) : IVec S_ 1 :=
  let main_c : IVec S_ 32 := constantI S_ 32 0#32
  let main_v0 : IVec S8x12500 32 := broadcastInDim S8x12500 ![] bcast_S_S8x12500 main_c
  let main_v1 : IVec S8x12500 1 := cmpi .sge main_arg1 main_v0
  let main_c_0 : IVec S_ 32 := constantI S_ 32 50000#32
  let main_v2 : IVec S8x12500 32 := broadcastInDim S8x12500 ![] bcast_S_S8x12500 main_c_0
  let main_v3 : IVec S8x12500 1 := cmpi .slt main_arg1 main_v2
  let main_v4 : IVec S8x12500 1 := andi main_v1 main_v3
  let main_c_1 : IVec S_ 1 := constantI S_ 1 1#1
  let main_v5 : IVec S_ 1 := (fun x v => Host.reduce IntOp.andi x v reducesTo_S8x12500_S_d0_1 h_S_) main_v4 main_c_1
  main_v5
-- ==== Kernel.lean ====
abbrev S4x128x50000 : Shape := ⟨3, ![4, 128, 50000]⟩
abbrev S8x12500 : Shape := ⟨2, ![8, 12500]⟩
abbrev S_ : Shape := ⟨0, ![]⟩
abbrev S8x12544 : Shape := ⟨2, ![8, 12544]⟩
abbrev S4x12544 : Shape := ⟨2, ![4, 12544]⟩
abbrev S4x128x12544 : Shape := ⟨3, ![4, 128, 12544]⟩
abbrev S50000 : Shape := ⟨1, ![50000]⟩
abbrev S2x4x1792 : Shape := ⟨3, ![2, 4, 1792]⟩
abbrev S1792 : Shape := ⟨1, ![1792]⟩
abbrev S1x1x50000 : Shape := ⟨3, ![1, 1, 50000]⟩
abbrev S1x4x1792 : Shape := ⟨3, ![1, 4, 1792]⟩
abbrev S4x1792 : Shape := ⟨2, ![4, 1792]⟩
abbrev S16 : Shape := ⟨1, ![16]⟩
abbrev S1x16 : Shape := ⟨2, ![1, 16]⟩
abbrev S1x1x1792 : Shape := ⟨3, ![1, 1, 1792]⟩
abbrev S4x128x12500 : Shape := ⟨3, ![4, 128, 12500]⟩

abbrev nBuf : Table → Nat
  | .hbm => 13
  | .local .scVector .vmem => 7
  | _ => 0

abbrev bufTy : (tb : Table) → Fin (nBuf tb) → BufTy
  | .hbm, ⟨0, _⟩ => ⟨S4x128x50000, .f32⟩
  | .hbm, ⟨1, _⟩ => ⟨S8x12500, .i32⟩
  | .hbm, ⟨2, _⟩ => ⟨S_, .i32⟩
  | .hbm, ⟨3, _⟩ => ⟨S_, .i32⟩
  | .hbm, ⟨4, _⟩ => ⟨S8x12544, .i32⟩
  | .hbm, ⟨5, _⟩ => ⟨S4x12544, .i32⟩
  | .hbm, ⟨6, _⟩ => ⟨S4x12544, .i32⟩
  | .hbm, ⟨7, _⟩ => ⟨S_, .i32⟩
  | .hbm, ⟨8, _⟩ => ⟨S4x12544, .i32⟩
  | .hbm, ⟨9, _⟩ => ⟨S4x12544, .i32⟩
  | .hbm, ⟨10, _⟩ => ⟨S4x12544, .i32⟩
  | .hbm, ⟨11, _⟩ => ⟨S4x128x12544, .f32⟩
  | .hbm, ⟨12, _⟩ => ⟨S4x128x12500, .f32⟩
  | .local .scVector .vmem, ⟨0, _⟩ => ⟨S50000, .f32⟩
  | .local .scVector .vmem, ⟨1, _⟩ => ⟨S50000, .f32⟩
  | .local .scVector .vmem, ⟨2, _⟩ => ⟨S2x4x1792, .i32⟩
  | .local .scVector .vmem, ⟨3, _⟩ => ⟨S1792, .f32⟩
  | .local .scVector .vmem, ⟨4, _⟩ => ⟨S1792, .f32⟩
  | .local .scVector .vmem, ⟨5, _⟩ => ⟨S1792, .f32⟩
  | .local .scVector .vmem, ⟨6, _⟩ => ⟨S1792, .f32⟩
  | _, _ => ⟨S4x128x50000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_arg0_scv : Ref sig .scVector := ⟨.hbm, 0, rfl⟩
abbrev main_v5_scv : Ref sig .scVector := ⟨.hbm, 10, rfl⟩
abbrev main_v6_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_6 : BitVec 32 := 0#32
  let c8_i32 : BitVec 32 := 8#32
  let v21 : BitVec 32 := Scalar.addi c0_i32_6 c8_i32
  let c1_i32_7 : BitVec 32 := 1#32
  ⟨c0_i32_6, v21, c1_i32_7⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c128_i32 : BitVec 32 := 128#32
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_4 : BitVec 32 := 128#32
  let v20 : BitVec 32 := Scalar.remsi v2 c128_i32_4
  let c0_i32_6 : BitVec 32 := 0#32
  let c1_i32_7 : BitVec 32 := 1#32
  let arg18 : BitVec 32 := Scf.iv c0_i32_6 c1_i32_7 k0_t1
  let c2_i32_9 : BitVec 32 := 2#32
  let v22 : BitVec 32 := Scalar.muli arg18 c2_i32_9
  let v23 : BitVec 32 := Scalar.addi v20 v22
  let c0_i32_10 : BitVec 32 := 0#32
  ![v19.toNat, v23.toNat, 0]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c128_i32 : BitVec 32 := 128#32
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_4 : BitVec 32 := 128#32
  let v20 : BitVec 32 := Scalar.remsi v2 c128_i32_4
  let c0_i32_6 : BitVec 32 := 0#32
  let c1_i32_7 : BitVec 32 := 1#32
  let arg18 : BitVec 32 := Scf.iv c0_i32_6 c1_i32_7 k0_t1
  let c2_i32_9 : BitVec 32 := 2#32
  let v22 : BitVec 32 := Scalar.muli arg18 c2_i32_9
  let v23 : BitVec 32 := Scalar.addi v20 v22
  let c1_i32_12 : BitVec 32 := 1#32
  let v28 : BitVec 32 := Scalar.addi v23 c1_i32_12
  let c0_i32_13 : BitVec 32 := 0#32
  ![v19.toNat, v28.toNat, 0]
@[reducible] def k0_t2_loop : Scf.Loop 32 :=
  let c0_i32_47 : BitVec 32 := 0#32
  let c112_i32 : BitVec 32 := 112#32
  let v59 : BitVec 32 := Scalar.addi c0_i32_47 c112_i32
  let c1_i32_48 : BitVec 32 := 1#32
  ⟨c0_i32_47, v59, c1_i32_48⟩
def k0_off3 (k0_t2 : Fin k0_t2_loop.trips) : Fin 2 → Nat :=
  let c0_i32_252 : BitVec 32 := 0#32
  let v263 : Index := Scalar.indexCast c0_i32_252
  let c0_i32_47 : BitVec 32 := 0#32
  let c1_i32_48 : BitVec 32 := 1#32
  let arg19 : BitVec 32 := Scf.iv c0_i32_47 c1_i32_48 k0_t2
  let c16_i32_250 : BitVec 32 := 16#32
  let v258 : BitVec 32 := Scalar.muli arg19 c16_i32_250
  let v264 : Index := Scalar.indexCast v258
  ![0, v264.toNat]

def k0_chk1 (v267 : IVec S16 32) : Prop :=
  (∀ a x, ((![v267] : Fin 1 → IVec S16 32) a x).toNat < S50000.size a) ∧
  (∀ a x, ((![v267] : Fin 1 → IVec S16 32) a x).toNat < S50000.size a)
theorem k0_idx1_inb : ∀ (v267 : IVec S16 32) (k0_hw1 : k0_chk1 v267), ∀ a x, ((![v267] : Fin 1 → IVec S16 32) a x).toNat < S50000.size a := fun v267 k0_hw1 => k0_hw1.1
theorem k0_idx3_inb : ∀ (v267 : IVec S16 32) (k0_hw1 : k0_chk1 v267), ∀ a x, ((![v267] : Fin 1 → IVec S16 32) a x).toNat < S50000.size a := fun v267 k0_hw1 => k0_hw1.2

def k0_chk2 (v269 : IVec S16 32) : Prop :=
  (∀ a x, ((![v269] : Fin 1 → IVec S16 32) a x).toNat < S50000.size a) ∧
  (∀ a x, ((![v269] : Fin 1 → IVec S16 32) a x).toNat < S50000.size a)
theorem k0_idx2_inb : ∀ (v269 : IVec S16 32) (k0_hw2 : k0_chk2 v269), ∀ a x, ((![v269] : Fin 1 → IVec S16 32) a x).toNat < S50000.size a := fun v269 k0_hw2 => k0_hw2.1
theorem k0_idx4_inb : ∀ (v269 : IVec S16 32) (k0_hw2 : k0_chk2 v269), ∀ a x, ((![v269] : Fin 1 → IVec S16 32) a x).toNat < S50000.size a := fun v269 k0_hw2 => k0_hw2.2
def k0_off4 (k0_t2 : Fin k0_t2_loop.trips) : Fin 2 → Nat :=
  let c1_i32_256 : BitVec 32 := 1#32
  let v280 : Index := Scalar.indexCast c1_i32_256
  let c0_i32_47 : BitVec 32 := 0#32
  let c1_i32_48 : BitVec 32 := 1#32
  let arg19 : BitVec 32 := Scf.iv c0_i32_47 c1_i32_48 k0_t2
  let c16_i32_250 : BitVec 32 := 16#32
  let v258 : BitVec 32 := Scalar.muli arg19 c16_i32_250
  let v281 : Index := Scalar.indexCast v258
  ![1, v281.toNat]

def k0_chk3 (v284 : IVec S16 32) : Prop :=
  (∀ a x, ((![v284] : Fin 1 → IVec S16 32) a x).toNat < S50000.size a) ∧
  (∀ a x, ((![v284] : Fin 1 → IVec S16 32) a x).toNat < S50000.size a)
theorem k0_idx5_inb : ∀ (v284 : IVec S16 32) (k0_hw3 : k0_chk3 v284), ∀ a x, ((![v284] : Fin 1 → IVec S16 32) a x).toNat < S50000.size a := fun v284 k0_hw3 => k0_hw3.1
theorem k0_idx7_inb : ∀ (v284 : IVec S16 32) (k0_hw3 : k0_chk3 v284), ∀ a x, ((![v284] : Fin 1 → IVec S16 32) a x).toNat < S50000.size a := fun v284 k0_hw3 => k0_hw3.2

def k0_chk4 (v286 : IVec S16 32) : Prop :=
  (∀ a x, ((![v286] : Fin 1 → IVec S16 32) a x).toNat < S50000.size a) ∧
  (∀ a x, ((![v286] : Fin 1 → IVec S16 32) a x).toNat < S50000.size a)
theorem k0_idx6_inb : ∀ (v286 : IVec S16 32) (k0_hw4 : k0_chk4 v286), ∀ a x, ((![v286] : Fin 1 → IVec S16 32) a x).toNat < S50000.size a := fun v286 k0_hw4 => k0_hw4.1
theorem k0_idx8_inb : ∀ (v286 : IVec S16 32) (k0_hw4 : k0_chk4 v286), ∀ a x, ((![v286] : Fin 1 → IVec S16 32) a x).toNat < S50000.size a := fun v286 k0_hw4 => k0_hw4.2
def k0_off5 (k0_t2 : Fin k0_t2_loop.trips) : Fin 2 → Nat :=
  let c2_i32_261 : BitVec 32 := 2#32
  let v297 : Index := Scalar.indexCast c2_i32_261
  let c0_i32_47 : BitVec 32 := 0#32
  let c1_i32_48 : BitVec 32 := 1#32
  let arg19 : BitVec 32 := Scf.iv c0_i32_47 c1_i32_48 k0_t2
  let c16_i32_250 : BitVec 32 := 16#32
  let v258 : BitVec 32 := Scalar.muli arg19 c16_i32_250
  let v298 : Index := Scalar.indexCast v258
  ![2, v298.toNat]

def k0_chk5 (v301 : IVec S16 32) : Prop :=
  (∀ a x, ((![v301] : Fin 1 → IVec S16 32) a x).toNat < S50000.size a) ∧
  (∀ a x, ((![v301] : Fin 1 → IVec S16 32) a x).toNat < S50000.size a)
theorem k0_idx9_inb : ∀ (v301 : IVec S16 32) (k0_hw5 : k0_chk5 v301), ∀ a x, ((![v301] : Fin 1 → IVec S16 32) a x).toNat < S50000.size a := fun v301 k0_hw5 => k0_hw5.1
theorem k0_idx11_inb : ∀ (v301 : IVec S16 32) (k0_hw5 : k0_chk5 v301), ∀ a x, ((![v301] : Fin 1 → IVec S16 32) a x).toNat < S50000.size a := fun v301 k0_hw5 => k0_hw5.2

def k0_chk6 (v303 : IVec S16 32) : Prop :=
  (∀ a x, ((![v303] : Fin 1 → IVec S16 32) a x).toNat < S50000.size a) ∧
  (∀ a x, ((![v303] : Fin 1 → IVec S16 32) a x).toNat < S50000.size a)
theorem k0_idx10_inb : ∀ (v303 : IVec S16 32) (k0_hw6 : k0_chk6 v303), ∀ a x, ((![v303] : Fin 1 → IVec S16 32) a x).toNat < S50000.size a := fun v303 k0_hw6 => k0_hw6.1
theorem k0_idx12_inb : ∀ (v303 : IVec S16 32) (k0_hw6 : k0_chk6 v303), ∀ a x, ((![v303] : Fin 1 → IVec S16 32) a x).toNat < S50000.size a := fun v303 k0_hw6 => k0_hw6.2
def k0_off6 (k0_t2 : Fin k0_t2_loop.trips) : Fin 2 → Nat :=
  let c3_i32 : BitVec 32 := 3#32
  let v314 : Index := Scalar.indexCast c3_i32
  let c0_i32_47 : BitVec 32 := 0#32
  let c1_i32_48 : BitVec 32 := 1#32
  let arg19 : BitVec 32 := Scf.iv c0_i32_47 c1_i32_48 k0_t2
  let c16_i32_250 : BitVec 32 := 16#32
  let v258 : BitVec 32 := Scalar.muli arg19 c16_i32_250
  let v315 : Index := Scalar.indexCast v258
  ![3, v315.toNat]

def k0_chk7 (v318 : IVec S16 32) : Prop :=
  (∀ a x, ((![v318] : Fin 1 → IVec S16 32) a x).toNat < S50000.size a) ∧
  (∀ a x, ((![v318] : Fin 1 → IVec S16 32) a x).toNat < S50000.size a)
theorem k0_idx13_inb : ∀ (v318 : IVec S16 32) (k0_hw7 : k0_chk7 v318), ∀ a x, ((![v318] : Fin 1 → IVec S16 32) a x).toNat < S50000.size a := fun v318 k0_hw7 => k0_hw7.1
theorem k0_idx15_inb : ∀ (v318 : IVec S16 32) (k0_hw7 : k0_chk7 v318), ∀ a x, ((![v318] : Fin 1 → IVec S16 32) a x).toNat < S50000.size a := fun v318 k0_hw7 => k0_hw7.2

def k0_chk8 (v320 : IVec S16 32) : Prop :=
  (∀ a x, ((![v320] : Fin 1 → IVec S16 32) a x).toNat < S50000.size a) ∧
  (∀ a x, ((![v320] : Fin 1 → IVec S16 32) a x).toNat < S50000.size a)
theorem k0_idx14_inb : ∀ (v320 : IVec S16 32) (k0_hw8 : k0_chk8 v320), ∀ a x, ((![v320] : Fin 1 → IVec S16 32) a x).toNat < S50000.size a := fun v320 k0_hw8 => k0_hw8.1
theorem k0_idx16_inb : ∀ (v320 : IVec S16 32) (k0_hw8 : k0_chk8 v320), ∀ a x, ((![v320] : Fin 1 → IVec S16 32) a x).toNat < S50000.size a := fun v320 k0_hw8 => k0_hw8.2
def k0_off7 (k0_t2 : Fin k0_t2_loop.trips) : Fin 1 → Nat :=
  let c0_i32_47 : BitVec 32 := 0#32
  let c1_i32_48 : BitVec 32 := 1#32
  let arg19 : BitVec 32 := Scf.iv c0_i32_47 c1_i32_48 k0_t2
  let c16_i32_250 : BitVec 32 := 16#32
  let v258 : BitVec 32 := Scalar.muli arg19 c16_i32_250
  let v331 : Index := Scalar.indexCast v258
  ![v331.toNat]
def k0_off8 (i : grid0.Coords) (k0_t1 : Fin k0_t1_loop.trips) (c0_i32_50 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c128_i32 : BitVec 32 := 128#32
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_4 : BitVec 32 := 128#32
  let v20 : BitVec 32 := Scalar.remsi v2 c128_i32_4
  let c0_i32_6 : BitVec 32 := 0#32
  let c1_i32_7 : BitVec 32 := 1#32
  let arg18 : BitVec 32 := Scf.iv c0_i32_6 c1_i32_7 k0_t1
  let c2_i32_9 : BitVec 32 := 2#32
  let v22 : BitVec 32 := Scalar.muli arg18 c2_i32_9
  let v23 : BitVec 32 := Scalar.addi v20 v22
  let v60 : BitVec 32 := Scalar.addi v23 c0_i32_50
  let c0_i32_51 : BitVec 32 := 0#32
  ![v19.toNat, v60.toNat, 0]
@[reducible] def k0_t3_loop : Scf.Loop 32 :=
  let c0_i32_75 : BitVec 32 := 0#32
  let c112_i32_76 : BitVec 32 := 112#32
  let v82 : BitVec 32 := Scalar.addi c0_i32_75 c112_i32_76
  let c1_i32_77 : BitVec 32 := 1#32
  ⟨c0_i32_75, v82, c1_i32_77⟩
def k0_off9 (k0_t3 : Fin k0_t3_loop.trips) : Fin 2 → Nat :=
  let c0_i32_252 : BitVec 32 := 0#32
  let v263 : Index := Scalar.indexCast c0_i32_252
  let c0_i32_75 : BitVec 32 := 0#32
  let c1_i32_77 : BitVec 32 := 1#32
  let arg19 : BitVec 32 := Scf.iv c0_i32_75 c1_i32_77 k0_t3
  let c16_i32_250 : BitVec 32 := 16#32
  let v258 : BitVec 32 := Scalar.muli arg19 c16_i32_250
  let v264 : Index := Scalar.indexCast v258
  ![0, v264.toNat]

def k0_chk9 (v267 : IVec S16 32) : Prop :=
  (∀ a x, ((![v267] : Fin 1 → IVec S16 32) a x).toNat < S50000.size a) ∧
  (∀ a x, ((![v267] : Fin 1 → IVec S16 32) a x).toNat < S50000.size a)
theorem k0_idx17_inb : ∀ (v267 : IVec S16 32) (k0_hw9 : k0_chk9 v267), ∀ a x, ((![v267] : Fin 1 → IVec S16 32) a x).toNat < S50000.size a := fun v267 k0_hw9 => k0_hw9.1
theorem k0_idx19_inb : ∀ (v267 : IVec S16 32) (k0_hw9 : k0_chk9 v267), ∀ a x, ((![v267] : Fin 1 → IVec S16 32) a x).toNat < S50000.size a := fun v267 k0_hw9 => k0_hw9.2

def k0_chk10 (v269 : IVec S16 32) : Prop :=
  (∀ a x, ((![v269] : Fin 1 → IVec S16 32) a x).toNat < S50000.size a) ∧
  (∀ a x, ((![v269] : Fin 1 → IVec S16 32) a x).toNat < S50000.size a)
theorem k0_idx18_inb : ∀ (v269 : IVec S16 32) (k0_hw10 : k0_chk10 v269), ∀ a x, ((![v269] : Fin 1 → IVec S16 32) a x).toNat < S50000.size a := fun v269 k0_hw10 => k0_hw10.1
theorem k0_idx20_inb : ∀ (v269 : IVec S16 32) (k0_hw10 : k0_chk10 v269), ∀ a x, ((![v269] : Fin 1 → IVec S16 32) a x).toNat < S50000.size a := fun v269 k0_hw10 => k0_hw10.2
def k0_off10 (k0_t3 : Fin k0_t3_loop.trips) : Fin 2 → Nat :=
  let c1_i32_256 : BitVec 32 := 1#32
  let v280 : Index := Scalar.indexCast c1_i32_256
  let c0_i32_75 : BitVec 32 := 0#32
  let c1_i32_77 : BitVec 32 := 1#32
  let arg19 : BitVec 32 := Scf.iv c0_i32_75 c1_i32_77 k0_t3
  let c16_i32_250 : BitVec 32 := 16#32
  let v258 : BitVec 32 := Scalar.muli arg19 c16_i32_250
  let v281 : Index := Scalar.indexCast v258
  ![1, v281.toNat]

def k0_chk11 (v284 : IVec S16 32) : Prop :=
  (∀ a x, ((![v284] : Fin 1 → IVec S16 32) a x).toNat < S50000.size a) ∧
  (∀ a x, ((![v284] : Fin 1 → IVec S16 32) a x).toNat < S50000.size a)
theorem k0_idx21_inb : ∀ (v284 : IVec S16 32) (k0_hw11 : k0_chk11 v284), ∀ a x, ((![v284] : Fin 1 → IVec S16 32) a x).toNat < S50000.size a := fun v284 k0_hw11 => k0_hw11.1
theorem k0_idx23_inb : ∀ (v284 : IVec S16 32) (k0_hw11 : k0_chk11 v284), ∀ a x, ((![v284] : Fin 1 → IVec S16 32) a x).toNat < S50000.size a := fun v284 k0_hw11 => k0_hw11.2

def k0_chk12 (v286 : IVec S16 32) : Prop :=
  (∀ a x, ((![v286] : Fin 1 → IVec S16 32) a x).toNat < S50000.size a) ∧
  (∀ a x, ((![v286] : Fin 1 → IVec S16 32) a x).toNat < S50000.size a)
theorem k0_idx22_inb : ∀ (v286 : IVec S16 32) (k0_hw12 : k0_chk12 v286), ∀ a x, ((![v286] : Fin 1 → IVec S16 32) a x).toNat < S50000.size a := fun v286 k0_hw12 => k0_hw12.1
theorem k0_idx24_inb : ∀ (v286 : IVec S16 32) (k0_hw12 : k0_chk12 v286), ∀ a x, ((![v286] : Fin 1 → IVec S16 32) a x).toNat < S50000.size a := fun v286 k0_hw12 => k0_hw12.2
def k0_off11 (k0_t3 : Fin k0_t3_loop.trips) : Fin 2 → Nat :=
  let c2_i32_261 : BitVec 32 := 2#32
  let v297 : Index := Scalar.indexCast c2_i32_261
  let c0_i32_75 : BitVec 32 := 0#32
  let c1_i32_77 : BitVec 32 := 1#32
  let arg19 : BitVec 32 := Scf.iv c0_i32_75 c1_i32_77 k0_t3
  let c16_i32_250 : BitVec 32 := 16#32
  let v258 : BitVec 32 := Scalar.muli arg19 c16_i32_250
  let v298 : Index := Scalar.indexCast v258
  ![2, v298.toNat]

def k0_chk13 (v301 : IVec S16 32) : Prop :=
  (∀ a x, ((![v301] : Fin 1 → IVec S16 32) a x).toNat < S50000.size a) ∧
  (∀ a x, ((![v301] : Fin 1 → IVec S16 32) a x).toNat < S50000.size a)
theorem k0_idx25_inb : ∀ (v301 : IVec S16 32) (k0_hw13 : k0_chk13 v301), ∀ a x, ((![v301] : Fin 1 → IVec S16 32) a x).toNat < S50000.size a := fun v301 k0_hw13 => k0_hw13.1
theorem k0_idx27_inb : ∀ (v301 : IVec S16 32) (k0_hw13 : k0_chk13 v301), ∀ a x, ((![v301] : Fin 1 → IVec S16 32) a x).toNat < S50000.size a := fun v301 k0_hw13 => k0_hw13.2

def k0_chk14 (v303 : IVec S16 32) : Prop :=
  (∀ a x, ((![v303] : Fin 1 → IVec S16 32) a x).toNat < S50000.size a) ∧
  (∀ a x, ((![v303] : Fin 1 → IVec S16 32) a x).toNat < S50000.size a)
theorem k0_idx26_inb : ∀ (v303 : IVec S16 32) (k0_hw14 : k0_chk14 v303), ∀ a x, ((![v303] : Fin 1 → IVec S16 32) a x).toNat < S50000.size a := fun v303 k0_hw14 => k0_hw14.1
theorem k0_idx28_inb : ∀ (v303 : IVec S16 32) (k0_hw14 : k0_chk14 v303), ∀ a x, ((![v303] : Fin 1 → IVec S16 32) a x).toNat < S50000.size a := fun v303 k0_hw14 => k0_hw14.2
def k0_off12 (k0_t3 : Fin k0_t3_loop.trips) : Fin 2 → Nat :=
  let c3_i32 : BitVec 32 := 3#32
  let v314 : Index := Scalar.indexCast c3_i32
  let c0_i32_75 : BitVec 32 := 0#32
  let c1_i32_77 : BitVec 32 := 1#32
  let arg19 : BitVec 32 := Scf.iv c0_i32_75 c1_i32_77 k0_t3
  let c16_i32_250 : BitVec 32 := 16#32
  let v258 : BitVec 32 := Scalar.muli arg19 c16_i32_250
  let v315 : Index := Scalar.indexCast v258
  ![3, v315.toNat]

def k0_chk15 (v318 : IVec S16 32) : Prop :=
  (∀ a x, ((![v318] : Fin 1 → IVec S16 32) a x).toNat < S50000.size a) ∧
  (∀ a x, ((![v318] : Fin 1 → IVec S16 32) a x).toNat < S50000.size a)
theorem k0_idx29_inb : ∀ (v318 : IVec S16 32) (k0_hw15 : k0_chk15 v318), ∀ a x, ((![v318] : Fin 1 → IVec S16 32) a x).toNat < S50000.size a := fun v318 k0_hw15 => k0_hw15.1
theorem k0_idx31_inb : ∀ (v318 : IVec S16 32) (k0_hw15 : k0_chk15 v318), ∀ a x, ((![v318] : Fin 1 → IVec S16 32) a x).toNat < S50000.size a := fun v318 k0_hw15 => k0_hw15.2

def k0_chk16 (v320 : IVec S16 32) : Prop :=
  (∀ a x, ((![v320] : Fin 1 → IVec S16 32) a x).toNat < S50000.size a) ∧
  (∀ a x, ((![v320] : Fin 1 → IVec S16 32) a x).toNat < S50000.size a)
theorem k0_idx30_inb : ∀ (v320 : IVec S16 32) (k0_hw16 : k0_chk16 v320), ∀ a x, ((![v320] : Fin 1 → IVec S16 32) a x).toNat < S50000.size a := fun v320 k0_hw16 => k0_hw16.1
theorem k0_idx32_inb : ∀ (v320 : IVec S16 32) (k0_hw16 : k0_chk16 v320), ∀ a x, ((![v320] : Fin 1 → IVec S16 32) a x).toNat < S50000.size a := fun v320 k0_hw16 => k0_hw16.2
def k0_off13 (k0_t3 : Fin k0_t3_loop.trips) : Fin 1 → Nat :=
  let c0_i32_75 : BitVec 32 := 0#32
  let c1_i32_77 : BitVec 32 := 1#32
  let arg19 : BitVec 32 := Scf.iv c0_i32_75 c1_i32_77 k0_t3
  let c16_i32_250 : BitVec 32 := 16#32
  let v258 : BitVec 32 := Scalar.muli arg19 c16_i32_250
  let v331 : Index := Scalar.indexCast v258
  ![v331.toNat]
def k0_off14 (i : grid0.Coords) (k0_t1 : Fin k0_t1_loop.trips) (c0_i32_79 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c128_i32 : BitVec 32 := 128#32
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_4 : BitVec 32 := 128#32
  let v20 : BitVec 32 := Scalar.remsi v2 c128_i32_4
  let c0_i32_6 : BitVec 32 := 0#32
  let c1_i32_7 : BitVec 32 := 1#32
  let arg18 : BitVec 32 := Scf.iv c0_i32_6 c1_i32_7 k0_t1
  let c2_i32_9 : BitVec 32 := 2#32
  let v22 : BitVec 32 := Scalar.muli arg18 c2_i32_9
  let v23 : BitVec 32 := Scalar.addi v20 v22
  let v83 : BitVec 32 := Scalar.addi v23 c0_i32_79
  let c1792_i32_80 : BitVec 32 := 1792#32
  ![v19.toNat, v83.toNat, 1792]
@[reducible] def k0_t4_loop : Scf.Loop 32 :=
  let c0_i32_108 : BitVec 32 := 0#32
  let c112_i32_109 : BitVec 32 := 112#32
  let v113 : BitVec 32 := Scalar.addi c0_i32_108 c112_i32_109
  let c1_i32_110 : BitVec 32 := 1#32
  ⟨c0_i32_108, v113, c1_i32_110⟩
def k0_off15 (k0_t4 : Fin k0_t4_loop.trips) : Fin 2 → Nat :=
  let c0_i32_252 : BitVec 32 := 0#32
  let v263 : Index := Scalar.indexCast c0_i32_252
  let c0_i32_108 : BitVec 32 := 0#32
  let c1_i32_110 : BitVec 32 := 1#32
  let arg19 : BitVec 32 := Scf.iv c0_i32_108 c1_i32_110 k0_t4
  let c16_i32_250 : BitVec 32 := 16#32
  let v258 : BitVec 32 := Scalar.muli arg19 c16_i32_250
  let v264 : Index := Scalar.indexCast v258
  ![0, v264.toNat]

def k0_chk17 (v267 : IVec S16 32) : Prop :=
  (∀ a x, ((![v267] : Fin 1 → IVec S16 32) a x).toNat < S50000.size a) ∧
  (∀ a x, ((![v267] : Fin 1 → IVec S16 32) a x).toNat < S50000.size a)
theorem k0_idx33_inb : ∀ (v267 : IVec S16 32) (k0_hw17 : k0_chk17 v267), ∀ a x, ((![v267] : Fin 1 → IVec S16 32) a x).toNat < S50000.size a := fun v267 k0_hw17 => k0_hw17.1
theorem k0_idx35_inb : ∀ (v267 : IVec S16 32) (k0_hw17 : k0_chk17 v267), ∀ a x, ((![v267] : Fin 1 → IVec S16 32) a x).toNat < S50000.size a := fun v267 k0_hw17 => k0_hw17.2

def k0_chk18 (v269 : IVec S16 32) : Prop :=
  (∀ a x, ((![v269] : Fin 1 → IVec S16 32) a x).toNat < S50000.size a) ∧
  (∀ a x, ((![v269] : Fin 1 → IVec S16 32) a x).toNat < S50000.size a)
theorem k0_idx34_inb : ∀ (v269 : IVec S16 32) (k0_hw18 : k0_chk18 v269), ∀ a x, ((![v269] : Fin 1 → IVec S16 32) a x).toNat < S50000.size a := fun v269 k0_hw18 => k0_hw18.1
theorem k0_idx36_inb : ∀ (v269 : IVec S16 32) (k0_hw18 : k0_chk18 v269), ∀ a x, ((![v269] : Fin 1 → IVec S16 32) a x).toNat < S50000.size a := fun v269 k0_hw18 => k0_hw18.2
def k0_off16 (k0_t4 : Fin k0_t4_loop.trips) : Fin 2 → Nat :=
  let c1_i32_256 : BitVec 32 := 1#32
  let v280 : Index := Scalar.indexCast c1_i32_256
  let c0_i32_108 : BitVec 32 := 0#32
  let c1_i32_110 : BitVec 32 := 1#32
  let arg19 : BitVec 32 := Scf.iv c0_i32_108 c1_i32_110 k0_t4
  let c16_i32_250 : BitVec 32 := 16#32
  let v258 : BitVec 32 := Scalar.muli arg19 c16_i32_250
  let v281 : Index := Scalar.indexCast v258
  ![1, v281.toNat]

def k0_chk19 (v284 : IVec S16 32) : Prop :=
  (∀ a x, ((![v284] : Fin 1 → IVec S16 32) a x).toNat < S50000.size a) ∧
  (∀ a x, ((![v284] : Fin 1 → IVec S16 32) a x).toNat < S50000.size a)
theorem k0_idx37_inb : ∀ (v284 : IVec S16 32) (k0_hw19 : k0_chk19 v284), ∀ a x, ((![v284] : Fin 1 → IVec S16 32) a x).toNat < S50000.size a := fun v284 k0_hw19 => k0_hw19.1
theorem k0_idx39_inb : ∀ (v284 : IVec S16 32) (k0_hw19 : k0_chk19 v284), ∀ a x, ((![v284] : Fin 1 → IVec S16 32) a x).toNat < S50000.size a := fun v284 k0_hw19 => k0_hw19.2

def k0_chk20 (v286 : IVec S16 32) : Prop :=
  (∀ a x, ((![v286] : Fin 1 → IVec S16 32) a x).toNat < S50000.size a) ∧
  (∀ a x, ((![v286] : Fin 1 → IVec S16 32) a x).toNat < S50000.size a)
theorem k0_idx38_inb : ∀ (v286 : IVec S16 32) (k0_hw20 : k0_chk20 v286), ∀ a x, ((![v286] : Fin 1 → IVec S16 32) a x).toNat < S50000.size a := fun v286 k0_hw20 => k0_hw20.1
theorem k0_idx40_inb : ∀ (v286 : IVec S16 32) (k0_hw20 : k0_chk20 v286), ∀ a x, ((![v286] : Fin 1 → IVec S16 32) a x).toNat < S50000.size a := fun v286 k0_hw20 => k0_hw20.2
def k0_off17 (k0_t4 : Fin k0_t4_loop.trips) : Fin 2 → Nat :=
  let c2_i32_261 : BitVec 32 := 2#32
  let v297 : Index := Scalar.indexCast c2_i32_261
  let c0_i32_108 : BitVec 32 := 0#32
  let c1_i32_110 : BitVec 32 := 1#32
  let arg19 : BitVec 32 := Scf.iv c0_i32_108 c1_i32_110 k0_t4
  let c16_i32_250 : BitVec 32 := 16#32
  let v258 : BitVec 32 := Scalar.muli arg19 c16_i32_250
  let v298 : Index := Scalar.indexCast v258
  ![2, v298.toNat]

def k0_chk21 (v301 : IVec S16 32) : Prop :=
  (∀ a x, ((![v301] : Fin 1 → IVec S16 32) a x).toNat < S50000.size a) ∧
  (∀ a x, ((![v301] : Fin 1 → IVec S16 32) a x).toNat < S50000.size a)
theorem k0_idx41_inb : ∀ (v301 : IVec S16 32) (k0_hw21 : k0_chk21 v301), ∀ a x, ((![v301] : Fin 1 → IVec S16 32) a x).toNat < S50000.size a := fun v301 k0_hw21 => k0_hw21.1
theorem k0_idx43_inb : ∀ (v301 : IVec S16 32) (k0_hw21 : k0_chk21 v301), ∀ a x, ((![v301] : Fin 1 → IVec S16 32) a x).toNat < S50000.size a := fun v301 k0_hw21 => k0_hw21.2

def k0_chk22 (v303 : IVec S16 32) : Prop :=
  (∀ a x, ((![v303] : Fin 1 → IVec S16 32) a x).toNat < S50000.size a) ∧
  (∀ a x, ((![v303] : Fin 1 → IVec S16 32) a x).toNat < S50000.size a)
theorem k0_idx42_inb : ∀ (v303 : IVec S16 32) (k0_hw22 : k0_chk22 v303), ∀ a x, ((![v303] : Fin 1 → IVec S16 32) a x).toNat < S50000.size a := fun v303 k0_hw22 => k0_hw22.1
theorem k0_idx44_inb : ∀ (v303 : IVec S16 32) (k0_hw22 : k0_chk22 v303), ∀ a x, ((![v303] : Fin 1 → IVec S16 32) a x).toNat < S50000.size a := fun v303 k0_hw22 => k0_hw22.2
def k0_off18 (k0_t4 : Fin k0_t4_loop.trips) : Fin 2 → Nat :=
  let c3_i32 : BitVec 32 := 3#32
  let v314 : Index := Scalar.indexCast c3_i32
  let c0_i32_108 : BitVec 32 := 0#32
  let c1_i32_110 : BitVec 32 := 1#32
  let arg19 : BitVec 32 := Scf.iv c0_i32_108 c1_i32_110 k0_t4
  let c16_i32_250 : BitVec 32 := 16#32
  let v258 : BitVec 32 := Scalar.muli arg19 c16_i32_250
  let v315 : Index := Scalar.indexCast v258
  ![3, v315.toNat]

def k0_chk23 (v318 : IVec S16 32) : Prop :=
  (∀ a x, ((![v318] : Fin 1 → IVec S16 32) a x).toNat < S50000.size a) ∧
  (∀ a x, ((![v318] : Fin 1 → IVec S16 32) a x).toNat < S50000.size a)
theorem k0_idx45_inb : ∀ (v318 : IVec S16 32) (k0_hw23 : k0_chk23 v318), ∀ a x, ((![v318] : Fin 1 → IVec S16 32) a x).toNat < S50000.size a := fun v318 k0_hw23 => k0_hw23.1
theorem k0_idx47_inb : ∀ (v318 : IVec S16 32) (k0_hw23 : k0_chk23 v318), ∀ a x, ((![v318] : Fin 1 → IVec S16 32) a x).toNat < S50000.size a := fun v318 k0_hw23 => k0_hw23.2

def k0_chk24 (v320 : IVec S16 32) : Prop :=
  (∀ a x, ((![v320] : Fin 1 → IVec S16 32) a x).toNat < S50000.size a) ∧
  (∀ a x, ((![v320] : Fin 1 → IVec S16 32) a x).toNat < S50000.size a)
theorem k0_idx46_inb : ∀ (v320 : IVec S16 32) (k0_hw24 : k0_chk24 v320), ∀ a x, ((![v320] : Fin 1 → IVec S16 32) a x).toNat < S50000.size a := fun v320 k0_hw24 => k0_hw24.1
theorem k0_idx48_inb : ∀ (v320 : IVec S16 32) (k0_hw24 : k0_chk24 v320), ∀ a x, ((![v320] : Fin 1 → IVec S16 32) a x).toNat < S50000.size a := fun v320 k0_hw24 => k0_hw24.2
def k0_off19 (k0_t4 : Fin k0_t4_loop.trips) : Fin 1 → Nat :=
  let c0_i32_108 : BitVec 32 := 0#32
  let c1_i32_110 : BitVec 32 := 1#32
  let arg19 : BitVec 32 := Scf.iv c0_i32_108 c1_i32_110 k0_t4
  let c16_i32_250 : BitVec 32 := 16#32
  let v258 : BitVec 32 := Scalar.muli arg19 c16_i32_250
  let v331 : Index := Scalar.indexCast v258
  ![v331.toNat]
def k0_off20 (i : grid0.Coords) (k0_t1 : Fin k0_t1_loop.trips) (c0_i32_112 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c128_i32 : BitVec 32 := 128#32
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_4 : BitVec 32 := 128#32
  let v20 : BitVec 32 := Scalar.remsi v2 c128_i32_4
  let c0_i32_6 : BitVec 32 := 0#32
  let c1_i32_7 : BitVec 32 := 1#32
  let arg18 : BitVec 32 := Scf.iv c0_i32_6 c1_i32_7 k0_t1
  let c2_i32_9 : BitVec 32 := 2#32
  let v22 : BitVec 32 := Scalar.muli arg18 c2_i32_9
  let v23 : BitVec 32 := Scalar.addi v20 v22
  let v114 : BitVec 32 := Scalar.addi v23 c0_i32_112
  let c3584_i32_113 : BitVec 32 := 3584#32
  ![v19.toNat, v114.toNat, 3584]
@[reducible] def k0_t5_loop : Scf.Loop 32 :=
  let c0_i32_141 : BitVec 32 := 0#32
  let c112_i32_142 : BitVec 32 := 112#32
  let v144 : BitVec 32 := Scalar.addi c0_i32_141 c112_i32_142
  let c1_i32_143 : BitVec 32 := 1#32
  ⟨c0_i32_141, v144, c1_i32_143⟩
def k0_off21 (k0_t5 : Fin k0_t5_loop.trips) : Fin 2 → Nat :=
  let c0_i32_252 : BitVec 32 := 0#32
  let v263 : Index := Scalar.indexCast c0_i32_252
  let c0_i32_141 : BitVec 32 := 0#32
  let c1_i32_143 : BitVec 32 := 1#32
  let arg19 : BitVec 32 := Scf.iv c0_i32_141 c1_i32_143 k0_t5
  let c16_i32_250 : BitVec 32 := 16#32
  let v258 : BitVec 32 := Scalar.muli arg19 c16_i32_250
  let v264 : Index := Scalar.indexCast v258
  ![0, v264.toNat]

def k0_chk25 (v267 : IVec S16 32) : Prop :=
  (∀ a x, ((![v267] : Fin 1 → IVec S16 32) a x).toNat < S50000.size a) ∧
  (∀ a x, ((![v267] : Fin 1 → IVec S16 32) a x).toNat < S50000.size a)
theorem k0_idx49_inb : ∀ (v267 : IVec S16 32) (k0_hw25 : k0_chk25 v267), ∀ a x, ((![v267] : Fin 1 → IVec S16 32) a x).toNat < S50000.size a := fun v267 k0_hw25 => k0_hw25.1
theorem k0_idx51_inb : ∀ (v267 : IVec S16 32) (k0_hw25 : k0_chk25 v267), ∀ a x, ((![v267] : Fin 1 → IVec S16 32) a x).toNat < S50000.size a := fun v267 k0_hw25 => k0_hw25.2

def k0_chk26 (v269 : IVec S16 32) : Prop :=
  (∀ a x, ((![v269] : Fin 1 → IVec S16 32) a x).toNat < S50000.size a) ∧
  (∀ a x, ((![v269] : Fin 1 → IVec S16 32) a x).toNat < S50000.size a)
theorem k0_idx50_inb : ∀ (v269 : IVec S16 32) (k0_hw26 : k0_chk26 v269), ∀ a x, ((![v269] : Fin 1 → IVec S16 32) a x).toNat < S50000.size a := fun v269 k0_hw26 => k0_hw26.1
theorem k0_idx52_inb : ∀ (v269 : IVec S16 32) (k0_hw26 : k0_chk26 v269), ∀ a x, ((![v269] : Fin 1 → IVec S16 32) a x).toNat < S50000.size a := fun v269 k0_hw26 => k0_hw26.2
def k0_off22 (k0_t5 : Fin k0_t5_loop.trips) : Fin 2 → Nat :=
  let c1_i32_256 : BitVec 32 := 1#32
  let v280 : Index := Scalar.indexCast c1_i32_256
  let c0_i32_141 : BitVec 32 := 0#32
  let c1_i32_143 : BitVec 32 := 1#32
  let arg19 : BitVec 32 := Scf.iv c0_i32_141 c1_i32_143 k0_t5
  let c16_i32_250 : BitVec 32 := 16#32
  let v258 : BitVec 32 := Scalar.muli arg19 c16_i32_250
  let v281 : Index := Scalar.indexCast v258
  ![1, v281.toNat]

def k0_chk27 (v284 : IVec S16 32) : Prop :=
  (∀ a x, ((![v284] : Fin 1 → IVec S16 32) a x).toNat < S50000.size a) ∧
  (∀ a x, ((![v284] : Fin 1 → IVec S16 32) a x).toNat < S50000.size a)
theorem k0_idx53_inb : ∀ (v284 : IVec S16 32) (k0_hw27 : k0_chk27 v284), ∀ a x, ((![v284] : Fin 1 → IVec S16 32) a x).toNat < S50000.size a := fun v284 k0_hw27 => k0_hw27.1
theorem k0_idx55_inb : ∀ (v284 : IVec S16 32) (k0_hw27 : k0_chk27 v284), ∀ a x, ((![v284] : Fin 1 → IVec S16 32) a x).toNat < S50000.size a := fun v284 k0_hw27 => k0_hw27.2

def k0_chk28 (v286 : IVec S16 32) : Prop :=
  (∀ a x, ((![v286] : Fin 1 → IVec S16 32) a x).toNat < S50000.size a) ∧
  (∀ a x, ((![v286] : Fin 1 → IVec S16 32) a x).toNat < S50000.size a)
theorem k0_idx54_inb : ∀ (v286 : IVec S16 32) (k0_hw28 : k0_chk28 v286), ∀ a x, ((![v286] : Fin 1 → IVec S16 32) a x).toNat < S50000.size a := fun v286 k0_hw28 => k0_hw28.1
theorem k0_idx56_inb : ∀ (v286 : IVec S16 32) (k0_hw28 : k0_chk28 v286), ∀ a x, ((![v286] : Fin 1 → IVec S16 32) a x).toNat < S50000.size a := fun v286 k0_hw28 => k0_hw28.2
def k0_off23 (k0_t5 : Fin k0_t5_loop.trips) : Fin 2 → Nat :=
  let c2_i32_261 : BitVec 32 := 2#32
  let v297 : Index := Scalar.indexCast c2_i32_261
  let c0_i32_141 : BitVec 32 := 0#32
  let c1_i32_143 : BitVec 32 := 1#32
  let arg19 : BitVec 32 := Scf.iv c0_i32_141 c1_i32_143 k0_t5
  let c16_i32_250 : BitVec 32 := 16#32
  let v258 : BitVec 32 := Scalar.muli arg19 c16_i32_250
  let v298 : Index := Scalar.indexCast v258
  ![2, v298.toNat]

def k0_chk29 (v301 : IVec S16 32) : Prop :=
  (∀ a x, ((![v301] : Fin 1 → IVec S16 32) a x).toNat < S50000.size a) ∧
  (∀ a x, ((![v301] : Fin 1 → IVec S16 32) a x).toNat < S50000.size a)
theorem k0_idx57_inb : ∀ (v301 : IVec S16 32) (k0_hw29 : k0_chk29 v301), ∀ a x, ((![v301] : Fin 1 → IVec S16 32) a x).toNat < S50000.size a := fun v301 k0_hw29 => k0_hw29.1
theorem k0_idx59_inb : ∀ (v301 : IVec S16 32) (k0_hw29 : k0_chk29 v301), ∀ a x, ((![v301] : Fin 1 → IVec S16 32) a x).toNat < S50000.size a := fun v301 k0_hw29 => k0_hw29.2

def k0_chk30 (v303 : IVec S16 32) : Prop :=
  (∀ a x, ((![v303] : Fin 1 → IVec S16 32) a x).toNat < S50000.size a) ∧
  (∀ a x, ((![v303] : Fin 1 → IVec S16 32) a x).toNat < S50000.size a)
theorem k0_idx58_inb : ∀ (v303 : IVec S16 32) (k0_hw30 : k0_chk30 v303), ∀ a x, ((![v303] : Fin 1 → IVec S16 32) a x).toNat < S50000.size a := fun v303 k0_hw30 => k0_hw30.1
theorem k0_idx60_inb : ∀ (v303 : IVec S16 32) (k0_hw30 : k0_chk30 v303), ∀ a x, ((![v303] : Fin 1 → IVec S16 32) a x).toNat < S50000.size a := fun v303 k0_hw30 => k0_hw30.2
def k0_off24 (k0_t5 : Fin k0_t5_loop.trips) : Fin 2 → Nat :=
  let c3_i32 : BitVec 32 := 3#32
  let v314 : Index := Scalar.indexCast c3_i32
  let c0_i32_141 : BitVec 32 := 0#32
  let c1_i32_143 : BitVec 32 := 1#32
  let arg19 : BitVec 32 := Scf.iv c0_i32_141 c1_i32_143 k0_t5
  let c16_i32_250 : BitVec 32 := 16#32
  let v258 : BitVec 32 := Scalar.muli arg19 c16_i32_250
  let v315 : Index := Scalar.indexCast v258
  ![3, v315.toNat]

def k0_chk31 (v318 : IVec S16 32) : Prop :=
  (∀ a x, ((![v318] : Fin 1 → IVec S16 32) a x).toNat < S50000.size a) ∧
  (∀ a x, ((![v318] : Fin 1 → IVec S16 32) a x).toNat < S50000.size a)
theorem k0_idx61_inb : ∀ (v318 : IVec S16 32) (k0_hw31 : k0_chk31 v318), ∀ a x, ((![v318] : Fin 1 → IVec S16 32) a x).toNat < S50000.size a := fun v318 k0_hw31 => k0_hw31.1
theorem k0_idx63_inb : ∀ (v318 : IVec S16 32) (k0_hw31 : k0_chk31 v318), ∀ a x, ((![v318] : Fin 1 → IVec S16 32) a x).toNat < S50000.size a := fun v318 k0_hw31 => k0_hw31.2

def k0_chk32 (v320 : IVec S16 32) : Prop :=
  (∀ a x, ((![v320] : Fin 1 → IVec S16 32) a x).toNat < S50000.size a) ∧
  (∀ a x, ((![v320] : Fin 1 → IVec S16 32) a x).toNat < S50000.size a)
theorem k0_idx62_inb : ∀ (v320 : IVec S16 32) (k0_hw32 : k0_chk32 v320), ∀ a x, ((![v320] : Fin 1 → IVec S16 32) a x).toNat < S50000.size a := fun v320 k0_hw32 => k0_hw32.1
theorem k0_idx64_inb : ∀ (v320 : IVec S16 32) (k0_hw32 : k0_chk32 v320), ∀ a x, ((![v320] : Fin 1 → IVec S16 32) a x).toNat < S50000.size a := fun v320 k0_hw32 => k0_hw32.2
def k0_off25 (k0_t5 : Fin k0_t5_loop.trips) : Fin 1 → Nat :=
  let c0_i32_141 : BitVec 32 := 0#32
  let c1_i32_143 : BitVec 32 := 1#32
  let arg19 : BitVec 32 := Scf.iv c0_i32_141 c1_i32_143 k0_t5
  let c16_i32_250 : BitVec 32 := 16#32
  let v258 : BitVec 32 := Scalar.muli arg19 c16_i32_250
  let v331 : Index := Scalar.indexCast v258
  ![v331.toNat]
def k0_off26 (i : grid0.Coords) (k0_t1 : Fin k0_t1_loop.trips) (c0_i32_145 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c128_i32 : BitVec 32 := 128#32
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_4 : BitVec 32 := 128#32
  let v20 : BitVec 32 := Scalar.remsi v2 c128_i32_4
  let c0_i32_6 : BitVec 32 := 0#32
  let c1_i32_7 : BitVec 32 := 1#32
  let arg18 : BitVec 32 := Scf.iv c0_i32_6 c1_i32_7 k0_t1
  let c2_i32_9 : BitVec 32 := 2#32
  let v22 : BitVec 32 := Scalar.muli arg18 c2_i32_9
  let v23 : BitVec 32 := Scalar.addi v20 v22
  let v145 : BitVec 32 := Scalar.addi v23 c0_i32_145
  let c5376_i32_146 : BitVec 32 := 5376#32
  ![v19.toNat, v145.toNat, 5376]
@[reducible] def k0_t6_loop : Scf.Loop 32 :=
  let c0_i32_174 : BitVec 32 := 0#32
  let c112_i32_175 : BitVec 32 := 112#32
  let v175 : BitVec 32 := Scalar.addi c0_i32_174 c112_i32_175
  let c1_i32_176 : BitVec 32 := 1#32
  ⟨c0_i32_174, v175, c1_i32_176⟩
def k0_off27 (k0_t6 : Fin k0_t6_loop.trips) : Fin 2 → Nat :=
  let c0_i32_252 : BitVec 32 := 0#32
  let v263 : Index := Scalar.indexCast c0_i32_252
  let c0_i32_174 : BitVec 32 := 0#32
  let c1_i32_176 : BitVec 32 := 1#32
  let arg19 : BitVec 32 := Scf.iv c0_i32_174 c1_i32_176 k0_t6
  let c16_i32_250 : BitVec 32 := 16#32
  let v258 : BitVec 32 := Scalar.muli arg19 c16_i32_250
  let v264 : Index := Scalar.indexCast v258
  ![0, v264.toNat]

def k0_chk33 (v267 : IVec S16 32) : Prop :=
  (∀ a x, ((![v267] : Fin 1 → IVec S16 32) a x).toNat < S50000.size a) ∧
  (∀ a x, ((![v267] : Fin 1 → IVec S16 32) a x).toNat < S50000.size a)
theorem k0_idx65_inb : ∀ (v267 : IVec S16 32) (k0_hw33 : k0_chk33 v267), ∀ a x, ((![v267] : Fin 1 → IVec S16 32) a x).toNat < S50000.size a := fun v267 k0_hw33 => k0_hw33.1
theorem k0_idx67_inb : ∀ (v267 : IVec S16 32) (k0_hw33 : k0_chk33 v267), ∀ a x, ((![v267] : Fin 1 → IVec S16 32) a x).toNat < S50000.size a := fun v267 k0_hw33 => k0_hw33.2

def k0_chk34 (v269 : IVec S16 32) : Prop :=
  (∀ a x, ((![v269] : Fin 1 → IVec S16 32) a x).toNat < S50000.size a) ∧
  (∀ a x, ((![v269] : Fin 1 → IVec S16 32) a x).toNat < S50000.size a)
theorem k0_idx66_inb : ∀ (v269 : IVec S16 32) (k0_hw34 : k0_chk34 v269), ∀ a x, ((![v269] : Fin 1 → IVec S16 32) a x).toNat < S50000.size a := fun v269 k0_hw34 => k0_hw34.1
theorem k0_idx68_inb : ∀ (v269 : IVec S16 32) (k0_hw34 : k0_chk34 v269), ∀ a x, ((![v269] : Fin 1 → IVec S16 32) a x).toNat < S50000.size a := fun v269 k0_hw34 => k0_hw34.2
def k0_off28 (k0_t6 : Fin k0_t6_loop.trips) : Fin 2 → Nat :=
  let c1_i32_256 : BitVec 32 := 1#32
  let v280 : Index := Scalar.indexCast c1_i32_256
  let c0_i32_174 : BitVec 32 := 0#32
  let c1_i32_176 : BitVec 32 := 1#32
  let arg19 : BitVec 32 := Scf.iv c0_i32_174 c1_i32_176 k0_t6
  let c16_i32_250 : BitVec 32 := 16#32
  let v258 : BitVec 32 := Scalar.muli arg19 c16_i32_250
  let v281 : Index := Scalar.indexCast v258
  ![1, v281.toNat]

def k0_chk35 (v284 : IVec S16 32) : Prop :=
  (∀ a x, ((![v284] : Fin 1 → IVec S16 32) a x).toNat < S50000.size a) ∧
  (∀ a x, ((![v284] : Fin 1 → IVec S16 32) a x).toNat < S50000.size a)
theorem k0_idx69_inb : ∀ (v284 : IVec S16 32) (k0_hw35 : k0_chk35 v284), ∀ a x, ((![v284] : Fin 1 → IVec S16 32) a x).toNat < S50000.size a := fun v284 k0_hw35 => k0_hw35.1
theorem k0_idx71_inb : ∀ (v284 : IVec S16 32) (k0_hw35 : k0_chk35 v284), ∀ a x, ((![v284] : Fin 1 → IVec S16 32) a x).toNat < S50000.size a := fun v284 k0_hw35 => k0_hw35.2

def k0_chk36 (v286 : IVec S16 32) : Prop :=
  (∀ a x, ((![v286] : Fin 1 → IVec S16 32) a x).toNat < S50000.size a) ∧
  (∀ a x, ((![v286] : Fin 1 → IVec S16 32) a x).toNat < S50000.size a)
theorem k0_idx70_inb : ∀ (v286 : IVec S16 32) (k0_hw36 : k0_chk36 v286), ∀ a x, ((![v286] : Fin 1 → IVec S16 32) a x).toNat < S50000.size a := fun v286 k0_hw36 => k0_hw36.1
theorem k0_idx72_inb : ∀ (v286 : IVec S16 32) (k0_hw36 : k0_chk36 v286), ∀ a x, ((![v286] : Fin 1 → IVec S16 32) a x).toNat < S50000.size a := fun v286 k0_hw36 => k0_hw36.2
def k0_off29 (k0_t6 : Fin k0_t6_loop.trips) : Fin 2 → Nat :=
  let c2_i32_261 : BitVec 32 := 2#32
  let v297 : Index := Scalar.indexCast c2_i32_261
  let c0_i32_174 : BitVec 32 := 0#32
  let c1_i32_176 : BitVec 32 := 1#32
  let arg19 : BitVec 32 := Scf.iv c0_i32_174 c1_i32_176 k0_t6
  let c16_i32_250 : BitVec 32 := 16#32
  let v258 : BitVec 32 := Scalar.muli arg19 c16_i32_250
  let v298 : Index := Scalar.indexCast v258
  ![2, v298.toNat]

def k0_chk37 (v301 : IVec S16 32) : Prop :=
  (∀ a x, ((![v301] : Fin 1 → IVec S16 32) a x).toNat < S50000.size a) ∧
  (∀ a x, ((![v301] : Fin 1 → IVec S16 32) a x).toNat < S50000.size a)
theorem k0_idx73_inb : ∀ (v301 : IVec S16 32) (k0_hw37 : k0_chk37 v301), ∀ a x, ((![v301] : Fin 1 → IVec S16 32) a x).toNat < S50000.size a := fun v301 k0_hw37 => k0_hw37.1
theorem k0_idx75_inb : ∀ (v301 : IVec S16 32) (k0_hw37 : k0_chk37 v301), ∀ a x, ((![v301] : Fin 1 → IVec S16 32) a x).toNat < S50000.size a := fun v301 k0_hw37 => k0_hw37.2

def k0_chk38 (v303 : IVec S16 32) : Prop :=
  (∀ a x, ((![v303] : Fin 1 → IVec S16 32) a x).toNat < S50000.size a) ∧
  (∀ a x, ((![v303] : Fin 1 → IVec S16 32) a x).toNat < S50000.size a)
theorem k0_idx74_inb : ∀ (v303 : IVec S16 32) (k0_hw38 : k0_chk38 v303), ∀ a x, ((![v303] : Fin 1 → IVec S16 32) a x).toNat < S50000.size a := fun v303 k0_hw38 => k0_hw38.1
theorem k0_idx76_inb : ∀ (v303 : IVec S16 32) (k0_hw38 : k0_chk38 v303), ∀ a x, ((![v303] : Fin 1 → IVec S16 32) a x).toNat < S50000.size a := fun v303 k0_hw38 => k0_hw38.2
def k0_off30 (k0_t6 : Fin k0_t6_loop.trips) : Fin 2 → Nat :=
  let c3_i32 : BitVec 32 := 3#32
  let v314 : Index := Scalar.indexCast c3_i32
  let c0_i32_174 : BitVec 32 := 0#32
  let c1_i32_176 : BitVec 32 := 1#32
  let arg19 : BitVec 32 := Scf.iv c0_i32_174 c1_i32_176 k0_t6
  let c16_i32_250 : BitVec 32 := 16#32
  let v258 : BitVec 32 := Scalar.muli arg19 c16_i32_250
  let v315 : Index := Scalar.indexCast v258
  ![3, v315.toNat]

def k0_chk39 (v318 : IVec S16 32) : Prop :=
  (∀ a x, ((![v318] : Fin 1 → IVec S16 32) a x).toNat < S50000.size a) ∧
  (∀ a x, ((![v318] : Fin 1 → IVec S16 32) a x).toNat < S50000.size a)
theorem k0_idx77_inb : ∀ (v318 : IVec S16 32) (k0_hw39 : k0_chk39 v318), ∀ a x, ((![v318] : Fin 1 → IVec S16 32) a x).toNat < S50000.size a := fun v318 k0_hw39 => k0_hw39.1
theorem k0_idx79_inb : ∀ (v318 : IVec S16 32) (k0_hw39 : k0_chk39 v318), ∀ a x, ((![v318] : Fin 1 → IVec S16 32) a x).toNat < S50000.size a := fun v318 k0_hw39 => k0_hw39.2

def k0_chk40 (v320 : IVec S16 32) : Prop :=
  (∀ a x, ((![v320] : Fin 1 → IVec S16 32) a x).toNat < S50000.size a) ∧
  (∀ a x, ((![v320] : Fin 1 → IVec S16 32) a x).toNat < S50000.size a)
theorem k0_idx78_inb : ∀ (v320 : IVec S16 32) (k0_hw40 : k0_chk40 v320), ∀ a x, ((![v320] : Fin 1 → IVec S16 32) a x).toNat < S50000.size a := fun v320 k0_hw40 => k0_hw40.1
theorem k0_idx80_inb : ∀ (v320 : IVec S16 32) (k0_hw40 : k0_chk40 v320), ∀ a x, ((![v320] : Fin 1 → IVec S16 32) a x).toNat < S50000.size a := fun v320 k0_hw40 => k0_hw40.2
def k0_off31 (k0_t6 : Fin k0_t6_loop.trips) : Fin 1 → Nat :=
  let c0_i32_174 : BitVec 32 := 0#32
  let c1_i32_176 : BitVec 32 := 1#32
  let arg19 : BitVec 32 := Scf.iv c0_i32_174 c1_i32_176 k0_t6
  let c16_i32_250 : BitVec 32 := 16#32
  let v258 : BitVec 32 := Scalar.muli arg19 c16_i32_250
  let v331 : Index := Scalar.indexCast v258
  ![v331.toNat]
def k0_off32 (i : grid0.Coords) (k0_t1 : Fin k0_t1_loop.trips) (c0_i32_178 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c128_i32 : BitVec 32 := 128#32
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_4 : BitVec 32 := 128#32
  let v20 : BitVec 32 := Scalar.remsi v2 c128_i32_4
  let c0_i32_6 : BitVec 32 := 0#32
  let c1_i32_7 : BitVec 32 := 1#32
  let arg18 : BitVec 32 := Scf.iv c0_i32_6 c1_i32_7 k0_t1
  let c2_i32_9 : BitVec 32 := 2#32
  let v22 : BitVec 32 := Scalar.muli arg18 c2_i32_9
  let v23 : BitVec 32 := Scalar.addi v20 v22
  let v176 : BitVec 32 := Scalar.addi v23 c0_i32_178
  let c7168_i32_179 : BitVec 32 := 7168#32
  ![v19.toNat, v176.toNat, 7168]
@[reducible] def k0_t7_loop : Scf.Loop 32 :=
  let c0_i32_207 : BitVec 32 := 0#32
  let c112_i32_208 : BitVec 32 := 112#32
  let v206 : BitVec 32 := Scalar.addi c0_i32_207 c112_i32_208
  let c1_i32_209 : BitVec 32 := 1#32
  ⟨c0_i32_207, v206, c1_i32_209⟩
def k0_off33 (k0_t7 : Fin k0_t7_loop.trips) : Fin 2 → Nat :=
  let c0_i32_252 : BitVec 32 := 0#32
  let v263 : Index := Scalar.indexCast c0_i32_252
  let c0_i32_207 : BitVec 32 := 0#32
  let c1_i32_209 : BitVec 32 := 1#32
  let arg19 : BitVec 32 := Scf.iv c0_i32_207 c1_i32_209 k0_t7
  let c16_i32_250 : BitVec 32 := 16#32
  let v258 : BitVec 32 := Scalar.muli arg19 c16_i32_250
  let v264 : Index := Scalar.indexCast v258
  ![0, v264.toNat]

def k0_chk41 (v267 : IVec S16 32) : Prop :=
  (∀ a x, ((![v267] : Fin 1 → IVec S16 32) a x).toNat < S50000.size a) ∧
  (∀ a x, ((![v267] : Fin 1 → IVec S16 32) a x).toNat < S50000.size a)
theorem k0_idx81_inb : ∀ (v267 : IVec S16 32) (k0_hw41 : k0_chk41 v267), ∀ a x, ((![v267] : Fin 1 → IVec S16 32) a x).toNat < S50000.size a := fun v267 k0_hw41 => k0_hw41.1
theorem k0_idx83_inb : ∀ (v267 : IVec S16 32) (k0_hw41 : k0_chk41 v267), ∀ a x, ((![v267] : Fin 1 → IVec S16 32) a x).toNat < S50000.size a := fun v267 k0_hw41 => k0_hw41.2

def k0_chk42 (v269 : IVec S16 32) : Prop :=
  (∀ a x, ((![v269] : Fin 1 → IVec S16 32) a x).toNat < S50000.size a) ∧
  (∀ a x, ((![v269] : Fin 1 → IVec S16 32) a x).toNat < S50000.size a)
theorem k0_idx82_inb : ∀ (v269 : IVec S16 32) (k0_hw42 : k0_chk42 v269), ∀ a x, ((![v269] : Fin 1 → IVec S16 32) a x).toNat < S50000.size a := fun v269 k0_hw42 => k0_hw42.1
theorem k0_idx84_inb : ∀ (v269 : IVec S16 32) (k0_hw42 : k0_chk42 v269), ∀ a x, ((![v269] : Fin 1 → IVec S16 32) a x).toNat < S50000.size a := fun v269 k0_hw42 => k0_hw42.2
def k0_off34 (k0_t7 : Fin k0_t7_loop.trips) : Fin 2 → Nat :=
  let c1_i32_256 : BitVec 32 := 1#32
  let v280 : Index := Scalar.indexCast c1_i32_256
  let c0_i32_207 : BitVec 32 := 0#32
  let c1_i32_209 : BitVec 32 := 1#32
  let arg19 : BitVec 32 := Scf.iv c0_i32_207 c1_i32_209 k0_t7
  let c16_i32_250 : BitVec 32 := 16#32
  let v258 : BitVec 32 := Scalar.muli arg19 c16_i32_250
  let v281 : Index := Scalar.indexCast v258
  ![1, v281.toNat]

def k0_chk43 (v284 : IVec S16 32) : Prop :=
  (∀ a x, ((![v284] : Fin 1 → IVec S16 32) a x).toNat < S50000.size a) ∧
  (∀ a x, ((![v284] : Fin 1 → IVec S16 32) a x).toNat < S50000.size a)
theorem k0_idx85_inb : ∀ (v284 : IVec S16 32) (k0_hw43 : k0_chk43 v284), ∀ a x, ((![v284] : Fin 1 → IVec S16 32) a x).toNat < S50000.size a := fun v284 k0_hw43 => k0_hw43.1
theorem k0_idx87_inb : ∀ (v284 : IVec S16 32) (k0_hw43 : k0_chk43 v284), ∀ a x, ((![v284] : Fin 1 → IVec S16 32) a x).toNat < S50000.size a := fun v284 k0_hw43 => k0_hw43.2

def k0_chk44 (v286 : IVec S16 32) : Prop :=
  (∀ a x, ((![v286] : Fin 1 → IVec S16 32) a x).toNat < S50000.size a) ∧
  (∀ a x, ((![v286] : Fin 1 → IVec S16 32) a x).toNat < S50000.size a)
theorem k0_idx86_inb : ∀ (v286 : IVec S16 32) (k0_hw44 : k0_chk44 v286), ∀ a x, ((![v286] : Fin 1 → IVec S16 32) a x).toNat < S50000.size a := fun v286 k0_hw44 => k0_hw44.1
theorem k0_idx88_inb : ∀ (v286 : IVec S16 32) (k0_hw44 : k0_chk44 v286), ∀ a x, ((![v286] : Fin 1 → IVec S16 32) a x).toNat < S50000.size a := fun v286 k0_hw44 => k0_hw44.2
def k0_off35 (k0_t7 : Fin k0_t7_loop.trips) : Fin 2 → Nat :=
  let c2_i32_261 : BitVec 32 := 2#32
  let v297 : Index := Scalar.indexCast c2_i32_261
  let c0_i32_207 : BitVec 32 := 0#32
  let c1_i32_209 : BitVec 32 := 1#32
  let arg19 : BitVec 32 := Scf.iv c0_i32_207 c1_i32_209 k0_t7
  let c16_i32_250 : BitVec 32 := 16#32
  let v258 : BitVec 32 := Scalar.muli arg19 c16_i32_250
  let v298 : Index := Scalar.indexCast v258
  ![2, v298.toNat]

def k0_chk45 (v301 : IVec S16 32) : Prop :=
  (∀ a x, ((![v301] : Fin 1 → IVec S16 32) a x).toNat < S50000.size a) ∧
  (∀ a x, ((![v301] : Fin 1 → IVec S16 32) a x).toNat < S50000.size a)
theorem k0_idx89_inb : ∀ (v301 : IVec S16 32) (k0_hw45 : k0_chk45 v301), ∀ a x, ((![v301] : Fin 1 → IVec S16 32) a x).toNat < S50000.size a := fun v301 k0_hw45 => k0_hw45.1
theorem k0_idx91_inb : ∀ (v301 : IVec S16 32) (k0_hw45 : k0_chk45 v301), ∀ a x, ((![v301] : Fin 1 → IVec S16 32) a x).toNat < S50000.size a := fun v301 k0_hw45 => k0_hw45.2

def k0_chk46 (v303 : IVec S16 32) : Prop :=
  (∀ a x, ((![v303] : Fin 1 → IVec S16 32) a x).toNat < S50000.size a) ∧
  (∀ a x, ((![v303] : Fin 1 → IVec S16 32) a x).toNat < S50000.size a)
theorem k0_idx90_inb : ∀ (v303 : IVec S16 32) (k0_hw46 : k0_chk46 v303), ∀ a x, ((![v303] : Fin 1 → IVec S16 32) a x).toNat < S50000.size a := fun v303 k0_hw46 => k0_hw46.1
theorem k0_idx92_inb : ∀ (v303 : IVec S16 32) (k0_hw46 : k0_chk46 v303), ∀ a x, ((![v303] : Fin 1 → IVec S16 32) a x).toNat < S50000.size a := fun v303 k0_hw46 => k0_hw46.2
def k0_off36 (k0_t7 : Fin k0_t7_loop.trips) : Fin 2 → Nat :=
  let c3_i32 : BitVec 32 := 3#32
  let v314 : Index := Scalar.indexCast c3_i32
  let c0_i32_207 : BitVec 32 := 0#32
  let c1_i32_209 : BitVec 32 := 1#32
  let arg19 : BitVec 32 := Scf.iv c0_i32_207 c1_i32_209 k0_t7
  let c16_i32_250 : BitVec 32 := 16#32
  let v258 : BitVec 32 := Scalar.muli arg19 c16_i32_250
  let v315 : Index := Scalar.indexCast v258
  ![3, v315.toNat]

def k0_chk47 (v318 : IVec S16 32) : Prop :=
  (∀ a x, ((![v318] : Fin 1 → IVec S16 32) a x).toNat < S50000.size a) ∧
  (∀ a x, ((![v318] : Fin 1 → IVec S16 32) a x).toNat < S50000.size a)
theorem k0_idx93_inb : ∀ (v318 : IVec S16 32) (k0_hw47 : k0_chk47 v318), ∀ a x, ((![v318] : Fin 1 → IVec S16 32) a x).toNat < S50000.size a := fun v318 k0_hw47 => k0_hw47.1
theorem k0_idx95_inb : ∀ (v318 : IVec S16 32) (k0_hw47 : k0_chk47 v318), ∀ a x, ((![v318] : Fin 1 → IVec S16 32) a x).toNat < S50000.size a := fun v318 k0_hw47 => k0_hw47.2

def k0_chk48 (v320 : IVec S16 32) : Prop :=
  (∀ a x, ((![v320] : Fin 1 → IVec S16 32) a x).toNat < S50000.size a) ∧
  (∀ a x, ((![v320] : Fin 1 → IVec S16 32) a x).toNat < S50000.size a)
theorem k0_idx94_inb : ∀ (v320 : IVec S16 32) (k0_hw48 : k0_chk48 v320), ∀ a x, ((![v320] : Fin 1 → IVec S16 32) a x).toNat < S50000.size a := fun v320 k0_hw48 => k0_hw48.1
theorem k0_idx96_inb : ∀ (v320 : IVec S16 32) (k0_hw48 : k0_chk48 v320), ∀ a x, ((![v320] : Fin 1 → IVec S16 32) a x).toNat < S50000.size a := fun v320 k0_hw48 => k0_hw48.2
def k0_off37 (k0_t7 : Fin k0_t7_loop.trips) : Fin 1 → Nat :=
  let c0_i32_207 : BitVec 32 := 0#32
  let c1_i32_209 : BitVec 32 := 1#32
  let arg19 : BitVec 32 := Scf.iv c0_i32_207 c1_i32_209 k0_t7
  let c16_i32_250 : BitVec 32 := 16#32
  let v258 : BitVec 32 := Scalar.muli arg19 c16_i32_250
  let v331 : Index := Scalar.indexCast v258
  ![v331.toNat]
def k0_off38 (i : grid0.Coords) (k0_t1 : Fin k0_t1_loop.trips) (c0_i32_211 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c128_i32 : BitVec 32 := 128#32
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_4 : BitVec 32 := 128#32
  let v20 : BitVec 32 := Scalar.remsi v2 c128_i32_4
  let c0_i32_6 : BitVec 32 := 0#32
  let c1_i32_7 : BitVec 32 := 1#32
  let arg18 : BitVec 32 := Scf.iv c0_i32_6 c1_i32_7 k0_t1
  let c2_i32_9 : BitVec 32 := 2#32
  let v22 : BitVec 32 := Scalar.muli arg18 c2_i32_9
  let v23 : BitVec 32 := Scalar.addi v20 v22
  let v207 : BitVec 32 := Scalar.addi v23 c0_i32_211
  let c8960_i32_212 : BitVec 32 := 8960#32
  ![v19.toNat, v207.toNat, 8960]
@[reducible] def k0_t8_loop : Scf.Loop 32 :=
  let c0_i32_232 : BitVec 32 := 0#32
  let c112_i32_233 : BitVec 32 := 112#32
  let v231 : BitVec 32 := Scalar.addi c0_i32_232 c112_i32_233
  let c1_i32_234 : BitVec 32 := 1#32
  ⟨c0_i32_232, v231, c1_i32_234⟩
def k0_off39 (k0_t8 : Fin k0_t8_loop.trips) : Fin 2 → Nat :=
  let c0_i32_252 : BitVec 32 := 0#32
  let v263 : Index := Scalar.indexCast c0_i32_252
  let c0_i32_232 : BitVec 32 := 0#32
  let c1_i32_234 : BitVec 32 := 1#32
  let arg19 : BitVec 32 := Scf.iv c0_i32_232 c1_i32_234 k0_t8
  let c16_i32_250 : BitVec 32 := 16#32
  let v258 : BitVec 32 := Scalar.muli arg19 c16_i32_250
  let v264 : Index := Scalar.indexCast v258
  ![0, v264.toNat]

def k0_chk49 (v267 : IVec S16 32) : Prop :=
  (∀ a x, ((![v267] : Fin 1 → IVec S16 32) a x).toNat < S50000.size a) ∧
  (∀ a x, ((![v267] : Fin 1 → IVec S16 32) a x).toNat < S50000.size a)
theorem k0_idx97_inb : ∀ (v267 : IVec S16 32) (k0_hw49 : k0_chk49 v267), ∀ a x, ((![v267] : Fin 1 → IVec S16 32) a x).toNat < S50000.size a := fun v267 k0_hw49 => k0_hw49.1
theorem k0_idx99_inb : ∀ (v267 : IVec S16 32) (k0_hw49 : k0_chk49 v267), ∀ a x, ((![v267] : Fin 1 → IVec S16 32) a x).toNat < S50000.size a := fun v267 k0_hw49 => k0_hw49.2

def k0_chk50 (v269 : IVec S16 32) : Prop :=
  (∀ a x, ((![v269] : Fin 1 → IVec S16 32) a x).toNat < S50000.size a) ∧
  (∀ a x, ((![v269] : Fin 1 → IVec S16 32) a x).toNat < S50000.size a)
theorem k0_idx98_inb : ∀ (v269 : IVec S16 32) (k0_hw50 : k0_chk50 v269), ∀ a x, ((![v269] : Fin 1 → IVec S16 32) a x).toNat < S50000.size a := fun v269 k0_hw50 => k0_hw50.1
theorem k0_idx100_inb : ∀ (v269 : IVec S16 32) (k0_hw50 : k0_chk50 v269), ∀ a x, ((![v269] : Fin 1 → IVec S16 32) a x).toNat < S50000.size a := fun v269 k0_hw50 => k0_hw50.2
def k0_off40 (k0_t8 : Fin k0_t8_loop.trips) : Fin 2 → Nat :=
  let c1_i32_256 : BitVec 32 := 1#32
  let v280 : Index := Scalar.indexCast c1_i32_256
  let c0_i32_232 : BitVec 32 := 0#32
  let c1_i32_234 : BitVec 32 := 1#32
  let arg19 : BitVec 32 := Scf.iv c0_i32_232 c1_i32_234 k0_t8
  let c16_i32_250 : BitVec 32 := 16#32
  let v258 : BitVec 32 := Scalar.muli arg19 c16_i32_250
  let v281 : Index := Scalar.indexCast v258
  ![1, v281.toNat]

def k0_chk51 (v284 : IVec S16 32) : Prop :=
  (∀ a x, ((![v284] : Fin 1 → IVec S16 32) a x).toNat < S50000.size a) ∧
  (∀ a x, ((![v284] : Fin 1 → IVec S16 32) a x).toNat < S50000.size a)
theorem k0_idx101_inb : ∀ (v284 : IVec S16 32) (k0_hw51 : k0_chk51 v284), ∀ a x, ((![v284] : Fin 1 → IVec S16 32) a x).toNat < S50000.size a := fun v284 k0_hw51 => k0_hw51.1
theorem k0_idx103_inb : ∀ (v284 : IVec S16 32) (k0_hw51 : k0_chk51 v284), ∀ a x, ((![v284] : Fin 1 → IVec S16 32) a x).toNat < S50000.size a := fun v284 k0_hw51 => k0_hw51.2

def k0_chk52 (v286 : IVec S16 32) : Prop :=
  (∀ a x, ((![v286] : Fin 1 → IVec S16 32) a x).toNat < S50000.size a) ∧
  (∀ a x, ((![v286] : Fin 1 → IVec S16 32) a x).toNat < S50000.size a)
theorem k0_idx102_inb : ∀ (v286 : IVec S16 32) (k0_hw52 : k0_chk52 v286), ∀ a x, ((![v286] : Fin 1 → IVec S16 32) a x).toNat < S50000.size a := fun v286 k0_hw52 => k0_hw52.1
theorem k0_idx104_inb : ∀ (v286 : IVec S16 32) (k0_hw52 : k0_chk52 v286), ∀ a x, ((![v286] : Fin 1 → IVec S16 32) a x).toNat < S50000.size a := fun v286 k0_hw52 => k0_hw52.2
def k0_off41 (k0_t8 : Fin k0_t8_loop.trips) : Fin 2 → Nat :=
  let c2_i32_261 : BitVec 32 := 2#32
  let v297 : Index := Scalar.indexCast c2_i32_261
  let c0_i32_232 : BitVec 32 := 0#32
  let c1_i32_234 : BitVec 32 := 1#32
  let arg19 : BitVec 32 := Scf.iv c0_i32_232 c1_i32_234 k0_t8
  let c16_i32_250 : BitVec 32 := 16#32
  let v258 : BitVec 32 := Scalar.muli arg19 c16_i32_250
  let v298 : Index := Scalar.indexCast v258
  ![2, v298.toNat]

def k0_chk53 (v301 : IVec S16 32) : Prop :=
  (∀ a x, ((![v301] : Fin 1 → IVec S16 32) a x).toNat < S50000.size a) ∧
  (∀ a x, ((![v301] : Fin 1 → IVec S16 32) a x).toNat < S50000.size a)
theorem k0_idx105_inb : ∀ (v301 : IVec S16 32) (k0_hw53 : k0_chk53 v301), ∀ a x, ((![v301] : Fin 1 → IVec S16 32) a x).toNat < S50000.size a := fun v301 k0_hw53 => k0_hw53.1
theorem k0_idx107_inb : ∀ (v301 : IVec S16 32) (k0_hw53 : k0_chk53 v301), ∀ a x, ((![v301] : Fin 1 → IVec S16 32) a x).toNat < S50000.size a := fun v301 k0_hw53 => k0_hw53.2

def k0_chk54 (v303 : IVec S16 32) : Prop :=
  (∀ a x, ((![v303] : Fin 1 → IVec S16 32) a x).toNat < S50000.size a) ∧
  (∀ a x, ((![v303] : Fin 1 → IVec S16 32) a x).toNat < S50000.size a)
theorem k0_idx106_inb : ∀ (v303 : IVec S16 32) (k0_hw54 : k0_chk54 v303), ∀ a x, ((![v303] : Fin 1 → IVec S16 32) a x).toNat < S50000.size a := fun v303 k0_hw54 => k0_hw54.1
theorem k0_idx108_inb : ∀ (v303 : IVec S16 32) (k0_hw54 : k0_chk54 v303), ∀ a x, ((![v303] : Fin 1 → IVec S16 32) a x).toNat < S50000.size a := fun v303 k0_hw54 => k0_hw54.2
def k0_off42 (k0_t8 : Fin k0_t8_loop.trips) : Fin 2 → Nat :=
  let c3_i32 : BitVec 32 := 3#32
  let v314 : Index := Scalar.indexCast c3_i32
  let c0_i32_232 : BitVec 32 := 0#32
  let c1_i32_234 : BitVec 32 := 1#32
  let arg19 : BitVec 32 := Scf.iv c0_i32_232 c1_i32_234 k0_t8
  let c16_i32_250 : BitVec 32 := 16#32
  let v258 : BitVec 32 := Scalar.muli arg19 c16_i32_250
  let v315 : Index := Scalar.indexCast v258
  ![3, v315.toNat]

def k0_chk55 (v318 : IVec S16 32) : Prop :=
  (∀ a x, ((![v318] : Fin 1 → IVec S16 32) a x).toNat < S50000.size a) ∧
  (∀ a x, ((![v318] : Fin 1 → IVec S16 32) a x).toNat < S50000.size a)
theorem k0_idx109_inb : ∀ (v318 : IVec S16 32) (k0_hw55 : k0_chk55 v318), ∀ a x, ((![v318] : Fin 1 → IVec S16 32) a x).toNat < S50000.size a := fun v318 k0_hw55 => k0_hw55.1
theorem k0_idx111_inb : ∀ (v318 : IVec S16 32) (k0_hw55 : k0_chk55 v318), ∀ a x, ((![v318] : Fin 1 → IVec S16 32) a x).toNat < S50000.size a := fun v318 k0_hw55 => k0_hw55.2

def k0_chk56 (v320 : IVec S16 32) : Prop :=
  (∀ a x, ((![v320] : Fin 1 → IVec S16 32) a x).toNat < S50000.size a) ∧
  (∀ a x, ((![v320] : Fin 1 → IVec S16 32) a x).toNat < S50000.size a)
theorem k0_idx110_inb : ∀ (v320 : IVec S16 32) (k0_hw56 : k0_chk56 v320), ∀ a x, ((![v320] : Fin 1 → IVec S16 32) a x).toNat < S50000.size a := fun v320 k0_hw56 => k0_hw56.1
theorem k0_idx112_inb : ∀ (v320 : IVec S16 32) (k0_hw56 : k0_chk56 v320), ∀ a x, ((![v320] : Fin 1 → IVec S16 32) a x).toNat < S50000.size a := fun v320 k0_hw56 => k0_hw56.2
def k0_off43 (k0_t8 : Fin k0_t8_loop.trips) : Fin 1 → Nat :=
  let c0_i32_232 : BitVec 32 := 0#32
  let c1_i32_234 : BitVec 32 := 1#32
  let arg19 : BitVec 32 := Scf.iv c0_i32_232 c1_i32_234 k0_t8
  let c16_i32_250 : BitVec 32 := 16#32
  let v258 : BitVec 32 := Scalar.muli arg19 c16_i32_250
  let v331 : Index := Scalar.indexCast v258
  ![v331.toNat]
def k0_off44 (i : grid0.Coords) (k0_t1 : Fin k0_t1_loop.trips) (c0_i32_236 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c128_i32 : BitVec 32 := 128#32
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c128_i32_4 : BitVec 32 := 128#32
  let v20 : BitVec 32 := Scalar.remsi v2 c128_i32_4
  let c0_i32_6 : BitVec 32 := 0#32
  let c1_i32_7 : BitVec 32 := 1#32
  let arg18 : BitVec 32 := Scf.iv c0_i32_6 c1_i32_7 k0_t1
  let c2_i32_9 : BitVec 32 := 2#32
  let v22 : BitVec 32 := Scalar.muli arg18 c2_i32_9
  let v23 : BitVec 32 := Scalar.addi v20 v22
  let v232 : BitVec 32 := Scalar.addi v23 c0_i32_236
  let c10752_i32_237 : BitVec 32 := 10752#32
  ![v19.toNat, v232.toNat, 10752]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x128x50000 : Shape := ⟨3, ![4, 128, 50000]⟩
abbrev S8x12500 : Shape := ⟨2, ![8, 12500]⟩
abbrev S_ : Shape := ⟨0, ![]⟩
abbrev S8x12500x1 : Shape := ⟨3, ![8, 12500, 1]⟩
abbrev S4x128x8x12500 : Shape := ⟨4, ![4, 128, 8, 12500]⟩
abbrev S4x128x12500 : Shape := ⟨3, ![4, 128, 12500]⟩

abbrev nBuf : Space → Nat
  | .hbm => 16
  | .vmem => 0
  | .smem => 0
  | _ => 0

abbrev bufTy : (tb : Table) → Fin (tcTables nBuf tb) → BufTy
  | .hbm, ⟨0, _⟩ => ⟨S4x128x50000, .f32⟩
  | .hbm, ⟨1, _⟩ => ⟨S8x12500, .i32⟩
  | .hbm, ⟨2, _⟩ => ⟨S_, .i32⟩
  | .hbm, ⟨3, _⟩ => ⟨S8x12500, .i32⟩
  | .hbm, ⟨4, _⟩ => ⟨S8x12500, .i1⟩
  | .hbm, ⟨5, _⟩ => ⟨S_, .i32⟩
  | .hbm, ⟨6, _⟩ => ⟨S8x12500, .i32⟩
  | .hbm, ⟨7, _⟩ => ⟨S8x12500, .i32⟩
  | .hbm, ⟨8, _⟩ => ⟨S8x12500, .i32⟩
  | .hbm, ⟨9, _⟩ => ⟨S8x12500x1, .i32⟩
  | .hbm, ⟨10, _⟩ => ⟨S4x128x8x12500, .f32⟩
  | .hbm, ⟨11, _⟩ => ⟨S_, .f32⟩
  | .hbm, ⟨12, _⟩ => ⟨S4x128x12500, .f32⟩
  | .hbm, ⟨13, _⟩ => ⟨S_, .f32⟩
  | .hbm, ⟨14, _⟩ => ⟨S4x128x12500, .f32⟩
  | .hbm, ⟨15, _⟩ => ⟨S4x128x12500, .f32⟩
  | _, _ => ⟨S4x128x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Setup.lean ====
/-
  The launch's set-up: the program as the launch theorem sees it, the ghost state of the launch's handshakes and of the
  local copies, and names for the buffers a subcore works on.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UU : Type := UH × Counters

abbrev EH : Emb UH (MT nD τ sig (HIx 1) (Elt F) ℕ UU ℕ) := embL

/-! ## Buffers -/

/-- The argument `x` (every vertex's channels), the packed index table and the padded result, as locations of device `d`. -/
abbrev xLoc (d : Dev nD) : Loc nD τ sig := (SparseCore.T d).loc main_arg0
abbrev iLoc (d : Dev nD) : Loc nD τ sig := (SparseCore.T d).loc main_v5
abbrev oLoc (d : Dev nD) : Loc nD τ sig := (SparseCore.T d).loc main_v6

abbrev xV : Memref sig .scVector .hbm S4x128x50000 .f32 := Memref.whole main_arg0_scv
abbrev iV : Memref sig .scVector .hbm S4x12544 .i32 := Memref.whole main_v5_scv
abbrev oV : Memref sig .scVector .hbm S4x128x12544 .f32 := Memref.whole main_v6_scv
abbrev sR0 : Memref sig .scVector .vmem S50000 .f32 := Memref.whole cc0_scratch0
abbrev sR1 : Memref sig .scVector .vmem S50000 .f32 := Memref.whole cc0_scratch1
abbrev sI : Memref sig .scVector .vmem S2x4x1792 .i32 := Memref.whole cc0_scratch2
abbrev sA0 : Memref sig .scVector .vmem S1792 .f32 := Memref.whole cc0_scratch3
abbrev sA1 : Memref sig .scVector .vmem S1792 .f32 := Memref.whole cc0_scratch4
abbrev sB0 : Memref sig .scVector .vmem S1792 .f32 := Memref.whole cc0_scratch5
abbrev sB1 : Memref sig .scVector .vmem S1792 .f32 := Memref.whole cc0_scratch6

/-- The SparseCore and the subcore of the grid point `L`. -/
abbrev cV (L : grid0.Coords) : Fin τ.nSC := (L 0).castLE hcore0
abbrev jV (L : grid0.Coords) : Fin τ.nSub := (L 1).castLE hsub0

/-- A program of the subcore at grid point `L`. -/
abbrev Tm (F : FTy → Type) (L : grid0.Coords) (α : Type) : Type 1 :=
  Prog (TpuEff nD τ sig (Elt F) Λ₀ (.scVector (cV L) (jV L))) α

end Cert.Proof.Pool
-- ==== Proof.Steps.lean ====
/-
  The pass over two channel rows, written once over the buffers it is run at: the kernel repeats one text seven times
  (a chunk of 1792 columns each), and here that text is one program with the chunk's buffers and offsets as arguments.
-/
module

public import proofs.«01_k».proof.Proof.Setup

@[expose] public section

noncomputable section

namespace Cert.Proof.Pool

open Cert.KernelIdeal Cert.KernelIdeal.Gen
open Idealize.ShloMosaic Idealize.SL.Sem

variable {F : FTy → Type} [FloatOps F]

/-- One packed word row of a group: sixteen packed words are loaded, split into their low and high halves, and both
    rows are read at both. -/
def pairStep (L : grid0.Coords) (slot : Memref sig .scVector .vmem S4x1792 .i32) (r0 r1 : Memref sig .scVector .vmem S50000 .f32)
    (off : Fin 2 → ℕ) (inb : ∀ a, off a + S1x16.size a ≤ S4x1792.size a) :
    Tm F L (Vec F S16 .f32 × Vec F S16 .f32 × Vec F S16 .f32 × Vec F S16 .f32) := do
  let ld : Vec F S1x16 .i32 ← Prog.lift (.load slot (Rect.unit (s := S4x1792) off S1x16.size inb).toLoadRect (View.loadsAt_vmem h_S1x16))
  have h1 : k0_chk1 (k0_pay2 ld) := (← Prog.lift (TpuEff.assume (k0_chk1 (k0_pay2 ld)) (k0_chk1.dec (k0_pay2 ld)))).down
  have h2 : k0_chk2 (k0_pay3 ld) := (← Prog.lift (TpuEff.assume (k0_chk2 (k0_pay3 ld)) (k0_chk2.dec (k0_pay3 ld)))).down
  let a : Vec F S16 .f32 ← SparseCore.vectorLoadIdx r0 ![k0_pay2 ld] (k0_idx1_inb _ h1) (View.loads_vmem h_S50000)
  let b : Vec F S16 .f32 ← SparseCore.vectorLoadIdx r0 ![k0_pay3 ld] (k0_idx2_inb _ h2) (View.loads_vmem h_S50000)
  let c : Vec F S16 .f32 ← SparseCore.vectorLoadIdx r1 ![k0_pay2 ld] (k0_idx3_inb _ h1) (View.loads_vmem h_S50000)
  let e : Vec F S16 .f32 ← SparseCore.vectorLoadIdx r1 ![k0_pay3 ld] (k0_idx4_inb _ h2) (View.loads_vmem h_S50000)
  pure (a, b, c, e)

/-- Group `t` of a chunk: the eight neighbours of sixteen vertices summed and scaled, for both rows. -/
def group (L : grid0.Coords) (slot : Memref sig .scVector .vmem S4x1792 .i32) (r0 r1 : Memref sig .scVector .vmem S50000 .f32)
    (o0 o1 : Memref sig .scVector .vmem S1792 .f32) (t : Fin k0_t2_loop.trips) : Tm F L Unit := do
  let p0 ← pairStep L slot r0 r1 (k0_off3 t) (k0_off3_inb t)
  let p1 ← pairStep L slot r0 r1 (k0_off4 t) (k0_off4_inb t)
  let p2 ← pairStep L slot r0 r1 (k0_off5 t) (k0_off5_inb t)
  let p3 ← pairStep L slot r0 r1 (k0_off6 t) (k0_off6_inb t)
  let _v : Vec F S16 .f32 ← Prog.lift (.load o0 (Rect.unit (s := S1792) (k0_off7 t) S16.size (k0_off7_inb t)).toLoadRect (View.loadsAt_vmem h_S16))
  Prog.lift (.store o0 (Rect.unit (s := S1792) (k0_off7 t) S16.size (k0_off7_inb t))
    (k0_pay15 (k0_pay7 p0.1 p0.2.1 p1.1 p1.2.1) p2.1 p2.2.1 p3.1 p3.2.1) Finset.univ (View.stores_vmem_bits_univ h_S16 rfl) (.inl rfl))
  let _v' : Vec F S16 .f32 ← Prog.lift (.load o1 (Rect.unit (s := S1792) (k0_off7 t) S16.size (k0_off7_inb t)).toLoadRect (View.loadsAt_vmem h_S16))
  Prog.lift (.store o1 (Rect.unit (s := S1792) (k0_off7 t) S16.size (k0_off7_inb t))
    (k0_pay16 (k0_pay8 p0.2.2.1 p0.2.2.2 p1.2.2.1 p1.2.2.2) p2.2.2.1 p2.2.2.2 p3.2.2.1 p3.2.2.2) Finset.univ (View.stores_vmem_bits_univ h_S16 rfl) (.inl rfl))
  pure ⟨⟩

/-- A chunk's 112 groups. -/
def groups (L : grid0.Coords) (slot : Memref sig .scVector .vmem S4x1792 .i32) (r0 r1 : Memref sig .scVector .vmem S50000 .f32)
    (o0 o1 : Memref sig .scVector .vmem S1792 .f32) : Tm F L Unit :=
  Scf.Loop.for k0_t2_loop k0_t2_ok ⟨⟩ fun t _ => group L slot r0 r1 o0 o1 t

section Chunk

/-- The two slots of the index buffer. -/
abbrev slot0 : Memref sig .scVector .vmem S4x1792 .i32 :=
  (sI.slice (Rect.unit (s := S2x4x1792) ![0, 0, 0] S1x4x1792.size inb_S2x4x1792_S1x4x1792_0_0_0) (fun _ => rfl)).squeeze S4x1792 squeezes_S1x4x1792_S4x1792
abbrev slot1 : Memref sig .scVector .vmem S4x1792 .i32 :=
  (sI.slice (Rect.unit (s := S2x4x1792) ![1, 0, 0] S1x4x1792.size inb_S2x4x1792_S1x4x1792_1_0_0) (fun _ => rfl)).squeeze S4x1792 squeezes_S1x4x1792_S4x1792

/-- The packed words of the columns from `o`. -/
abbrev iCh (o : ℕ) (inb : ∀ a, (![0, o] : Fin 2 → ℕ) a + S4x1792.size a ≤ S4x12544.size a) : Memref sig .scVector .hbm S4x1792 .i32 :=
  iV.slice (Rect.unit (s := S4x12544) ![0, o] S4x1792.size inb) (fun _ => rfl)

/-- The 1792 columns of the result at the offsets `off`. -/
abbrev oCh (off : Fin 3 → ℕ) (inb : ∀ a, off a + S1x1x1792.size a ≤ S4x128x12544.size a) : Memref sig .scVector .hbm S1792 .f32 :=
  (oV.slice (Rect.unit (s := S4x128x12544) off S1x1x1792.size inb) (fun _ => rfl)).squeeze S1792 squeezes_S1x1x1792_S1792

/-- The row of `x` at the offsets `off`. -/
abbrev xRow (off : Fin 3 → ℕ) (inb : ∀ a, off a + S1x1x50000.size a ≤ S4x128x50000.size a) : Memref sig .scVector .hbm S50000 .f32 :=
  (xV.slice (Rect.unit (s := S4x128x50000) off S1x1x50000.size inb) (fun _ => rfl)).squeeze S50000 squeezes_S1x1x50000_S50000

/-- A row of `x` copied to a row buffer: its start and its wait. -/
def rowStart (L : grid0.Coords) (src : Memref sig .scVector .hbm S50000 .f32) (hsrc : src.view.WordExact)
    (dst : Memref sig .scVector .vmem S50000 .f32) (hdst : dst.view.WordExact) (s : DmaSem sig) : Tm F L PUnit :=
  Prog.lift (.enqueueDma src (.here dst) (.dma s) hsrc hdst ⟨Or.inl rfl, trivial⟩)
def rowWait (L : grid0.Coords) (src : Memref sig .scVector .hbm S50000 .f32) (hsrc : src.view.WordExact)
    (dst : Memref sig .scVector .vmem S50000 .f32) (hdst : dst.view.WordExact) (s : DmaSem sig) : Tm F L PUnit :=
  Prog.lift (.waitDma2 s src dst hsrc hdst)

/-- A chunk of the packed table copied to a slot: its start and its wait. -/
def idxStart (L : grid0.Coords) (src : Memref sig .scVector .hbm S4x1792 .i32) (hsrc : src.view.WordExact)
    (dst : Memref sig .scVector .vmem S4x1792 .i32) (hdst : dst.view.WordExact) (s : DmaSem sig) : Tm F L PUnit :=
  Prog.lift (.enqueueDma src (.here dst) (.dma s) hsrc hdst ⟨Or.inl rfl, trivial⟩)
def idxWait (L : grid0.Coords) (src : Memref sig .scVector .hbm S4x1792 .i32) (hsrc : src.view.WordExact)
    (dst : Memref sig .scVector .vmem S4x1792 .i32) (hdst : dst.view.WordExact) (s : DmaSem sig) : Tm F L PUnit :=
  Prog.lift (.waitDma2 s src dst hsrc hdst)

/-- A chunk's two result rows copied out, on one semaphore: the two starts and the two waits. -/
def outStart (L : grid0.Coords) (a b : Memref sig .scVector .vmem S1792 .f32) (ha : a.view.WordExact) (hb : b.view.WordExact)
    (oa ob : Memref sig .scVector .hbm S1792 .f32) (hoa : oa.view.WordExact) (hob : ob.view.WordExact) (s : DmaSem sig) : Tm F L PUnit := do
  Prog.lift (.enqueueDma a (.here oa) (.dma s) ha hoa ⟨Or.inl rfl, trivial⟩)
  Prog.lift (.enqueueDma b (.here ob) (.dma s) hb hob ⟨Or.inl rfl, trivial⟩)
def outWait (L : grid0.Coords) (a b : Memref sig .scVector .vmem S1792 .f32) (ha : a.view.WordExact) (hb : b.view.WordExact)
    (oa ob : Memref sig .scVector .hbm S1792 .f32) (hoa : oa.view.WordExact) (hob : ob.view.WordExact) (s : DmaSem sig) : Tm F L PUnit := do
  Prog.lift (.waitDma2 s a oa ha hoa)
  Prog.lift (.waitDma2 s b ob hb hob)

/-- The evidence the copies carry. -/
theorem wx_iCh {o : ℕ} {inb : ∀ a, (![0, o] : Fin 2 → ℕ) a + S4x1792.size a ≤ S4x12544.size a} : (iCh o inb).view.WordExact := View.wordExact_bits rfl
theorem wx_slot0 : slot0.view.WordExact := (View.wordExact_bits rfl).reshape _ _
theorem wx_slot1 : slot1.view.WordExact := (View.wordExact_bits rfl).reshape _ _
theorem wx_oCh {off : Fin 3 → ℕ} {inb : ∀ a, off a + S1x1x1792.size a ≤ S4x128x12544.size a} : (oCh off inb).view.WordExact := (View.wordExact_bits rfl).reshape _ _
theorem wx_xRow {off : Fin 3 → ℕ} {inb : ∀ a, off a + S1x1x50000.size a ≤ S4x128x50000.size a} : (xRow off inb).view.WordExact := (View.wordExact_bits rfl).reshape _ _
theorem wx_whole (b : Ref sig .scVector) : (Memref.whole b : Memref sig .scVector _ _ _).view.WordExact := (Memref.isWhole_whole b).wordExact

/-- What a chunk works on: the even chunks use the first of everything, the odd chunks the second. -/
structure Side where
  slot : Memref sig .scVector .vmem S4x1792 .i32
  wslot : slot.view.WordExact
  a : Memref sig .scVector .vmem S1792 .f32
  wa : a.view.WordExact
  b : Memref sig .scVector .vmem S1792 .f32
  wb : b.view.WordExact
  si : DmaSem sig
  so : DmaSem sig

abbrev sideA : Side := ⟨slot0, wx_slot0, sA0, wx_whole _, sA1, wx_whole _, cc0_scratch9.sem, cc0_scratch11.sem⟩
abbrev sideB : Side := ⟨slot1, wx_slot1, sB0, wx_whole _, sB1, wx_whole _, cc0_scratch10.sem, cc0_scratch12.sem⟩

/-- A chunk's copies and groups on a side: the packed words in, the groups, the results out. -/
def chIn (L : grid0.Coords) (S : Side) (o : ℕ) (inb : ∀ a, (![0, o] : Fin 2 → ℕ) a + S4x1792.size a ≤ S4x12544.size a) : Tm F L PUnit :=
  idxStart L (iCh o inb) wx_iCh S.slot S.wslot S.si
def chGot (L : grid0.Coords) (S : Side) (o : ℕ) (inb : ∀ a, (![0, o] : Fin 2 → ℕ) a + S4x1792.size a ≤ S4x12544.size a) : Tm F L PUnit :=
  idxWait L (iCh o inb) wx_iCh S.slot S.wslot S.si
def chRun (L : grid0.Coords) (S : Side) : Tm F L Unit := groups L S.slot sR0 sR1 S.a S.b

/-- A chunk's two result rows, at their offsets. -/
abbrev OffIn (off : BitVec 32 → Fin 3 → ℕ) : Prop := ∀ (r : Fin 2) a, off (BitVec.ofNat 32 r.val) a + S1x1x1792.size a ≤ S4x128x12544.size a
def chOut (L : grid0.Coords) (S : Side) (off : BitVec 32 → Fin 3 → ℕ) (inb : OffIn off) : Tm F L PUnit :=
  outStart L S.a S.b S.wa S.wb (oCh (off 0#32) (inb 0)) (oCh (off 1#32) (inb 1)) wx_oCh wx_oCh S.so
def chDone (L : grid0.Coords) (S : Side) (off : BitVec 32 → Fin 3 → ℕ) (inb : OffIn off) : Tm F L PUnit :=
  outWait L S.a S.b S.wa S.wb (oCh (off 0#32) (inb 0)) (oCh (off 1#32) (inb 1)) wx_oCh wx_oCh S.so

/-- One of a chunk's two waits. -/
def chDone1 (L : grid0.Coords) (S : Side) (r : Fin 2) (off : BitVec 32 → Fin 3 → ℕ) (inb : OffIn off) : Tm F L PUnit :=
  match r with
  | 0 => Prog.lift (.waitDma2 S.so S.a (oCh (off 0#32) (inb 0)) S.wa wx_oCh)
  | 1 => Prog.lift (.waitDma2 S.so S.b (oCh (off 1#32) (inb 1)) S.wb wx_oCh)

/-- A pass in the pieces the kernel is printed in: both channel rows in, then the seven chunks, each chunk's words fetched while the one before is worked on
    and its results leaving while the next is. -/
def rowsIn (L : grid0.Coords) (p : Fin k0_t1_loop.trips) : Tm F L PUnit := do
  rowStart L (xRow (k0_off1 L p) (k0_off1_inb L p)) wx_xRow sR0 (wx_whole _) cc0_scratch7.sem
  rowStart L (xRow (k0_off2 L p) (k0_off2_inb L p)) wx_xRow sR1 (wx_whole _) cc0_scratch8.sem
  chIn L sideA 0 inb_S4x12544_S4x1792_0_0
  rowWait L (xRow (k0_off1 L p) (k0_off1_inb L p)) wx_xRow sR0 (wx_whole _) cc0_scratch7.sem
  rowWait L (xRow (k0_off2 L p) (k0_off2_inb L p)) wx_xRow sR1 (wx_whole _) cc0_scratch8.sem

def chunk0 (L : grid0.Coords) (p : Fin k0_t1_loop.trips) : Tm F L PUnit := do
  chGot L sideA 0 inb_S4x12544_S4x1792_0_0
  chIn L sideB 1792 inb_S4x12544_S4x1792_0_1792
  chRun L sideA
  chOut L sideA (k0_off8 L p) (k0_off8_inb L p)

def chunk1 (L : grid0.Coords) (p : Fin k0_t1_loop.trips) : Tm F L PUnit := do
  chGot L sideB 1792 inb_S4x12544_S4x1792_0_1792
  chIn L sideA 3584 inb_S4x12544_S4x1792_0_3584
  chRun L sideB
  chOut L sideB (k0_off14 L p) (k0_off14_inb L p)

def chunk2 (L : grid0.Coords) (p : Fin k0_t1_loop.trips) : Tm F L PUnit := do
  chGot L sideA 3584 inb_S4x12544_S4x1792_0_3584
  chIn L sideB 5376 inb_S4x12544_S4x1792_0_5376
  chDone L sideA (k0_off8 L p) (k0_off8_inb L p)
  chRun L sideA
  chOut L sideA (k0_off20 L p) (k0_off20_inb L p)

def chunk3 (L : grid0.Coords) (p : Fin k0_t1_loop.trips) : Tm F L PUnit := do
  chGot L sideB 5376 inb_S4x12544_S4x1792_0_5376
  chIn L sideA 7168 inb_S4x12544_S4x1792_0_7168
  chDone L sideB (k0_off14 L p) (k0_off14_inb L p)
  chRun L sideB
  pure ⟨⟩

def chunk34 (L : grid0.Coords) (p : Fin k0_t1_loop.trips) : Tm F L PUnit := do
  chOut L sideB (k0_off26 L p) (k0_off26_inb L p)
  chGot L sideA 7168 inb_S4x12544_S4x1792_0_7168
  chIn L sideB 8960 inb_S4x12544_S4x1792_0_8960
  chDone L sideA (k0_off20 L p) (k0_off20_inb L p)

def chunk45 (L : grid0.Coords) (p : Fin k0_t1_loop.trips) : Tm F L PUnit := do
  chRun L sideA
  chOut L sideA (k0_off32 L p) (k0_off32_inb L p)
  chGot L sideB 8960 inb_S4x12544_S4x1792_0_8960
  chIn L sideA 10752 inb_S4x12544_S4x1792_0_10752

def chunk56 (L : grid0.Coords) (p : Fin k0_t1_loop.trips) : Tm F L PUnit := do
  chDone L sideB (k0_off26 L p) (k0_off26_inb L p)
  chRun L sideB
  chOut L sideB (k0_off38 L p) (k0_off38_inb L p)
  chGot L sideA 10752 inb_S4x12544_S4x1792_0_10752
  chDone1 L sideA 0 (k0_off32 L p) (k0_off32_inb L p)

def passBulk (L : grid0.Coords) (p : Fin k0_t1_loop.trips) : Tm F L PUnit := do
  rowsIn L p
  chunk0 L p
  chunk1 L p
  chunk2 L p
  chunk3 L p
  chunk34 L p
  chunk45 L p
  chunk56 L p
  chDone1 L sideA 1 (k0_off32 L p) (k0_off32_inb L p)
  chRun L sideA
  chOut L sideA (k0_off44 L p) (k0_off44_inb L p)
  chDone L sideB (k0_off38 L p) (k0_off38_inb L p)
  chDone1 L sideA 0 (k0_off44 L p) (k0_off44_inb L p)

/-- A pass: both channel rows and the seven chunks, to the last wait. -/
def pass (L : grid0.Coords) (p : Fin k0_t1_loop.trips) : Tm F L Unit := do
  passBulk L p
  chDone1 L sideA 1 (k0_off44 L p) (k0_off44_inb L p)

end Chunk

/-- The subcore's task, as the body table passes its buffers. -/
abbrev task (L : grid0.Coords) : Tm F L PUnit :=
  cc0__avg_pool_sc L xV (Memref.isWhole_whole _) iV (Memref.isWhole_whole _) oV (Memref.isWhole_whole _)
    sR0 (Memref.isWhole_whole _) sR1 (Memref.isWhole_whole _) sI (Memref.isWhole_whole _) sA0 (Memref.isWhole_whole _)
    sA1 (Memref.isWhole_whole _) sB0 (Memref.isWhole_whole _) sB1 (Memref.isWhole_whole _)
    cc0_scratch7 cc0_scratch8 cc0_scratch9 cc0_scratch10 cc0_scratch11 cc0_scratch12

set_option maxRecDepth 65536 in
set_option maxHeartbeats 4000000 in
/-- The printed task is eight passes. -/
theorem task_eq (L : grid0.Coords) :
    task (F := F) L = (do Scf.Loop.for k0_t1_loop k0_t1_ok ⟨⟩ (fun p _ => pass L p); pure ⟨⟩) := by rfl

end Cert.Proof.Pool
-- ==== Proof.Spec.lean ====
/-
  What the kernel computes, over any arithmetic: a vertex's value is the sum of one row of `x` at the eight indices its
  four packed words hold, low half before high half, times one eighth.
-/
module

public import proofs.«01_k».proof.Proof.Setup

@[expose] public section

noncomputable section

namespace Cert.Proof.Pool

open Cert.KernelIdeal Cert.KernelIdeal.Gen
open Idealize.ShloMosaic

variable {F : FTy → Type} [FloatOps F] {α : Type}

/-- The two indices a packed word holds. -/
def lo (v : BitVec 32) : BitVec 32 := IntOp.andi v 65535#32
def hi (v : BitVec 32) : BitVec 32 := IntOp.shrui .vector v 16#32

/-- A row's entry at an index word (read modulo the row's length; every word met is below it). -/
def rowIx (v : BitVec 32) : S50000.Idx := fun a =>
  ⟨v.toNat % S50000.size a, Nat.mod_lt _ (by obtain rfl : a = 0 := Subsingleton.elim _ _; decide)⟩
def rowAt (x : S50000.Idx → α) (v : BitVec 32) : α := x (rowIx v)

/-- Both indices of every word of a chunk are row positions. -/
def Words (w : S4x1792.Idx → BitVec 32) : Prop := ∀ i, (lo (w i)).toNat < 50000 ∧ (hi (w i)).toNat < 50000

/-- Word `k` of a chunk's column. -/
def wordIx (k : Fin 4) (j : S1792.Idx) : S4x1792.Idx := fun a => match a with
  | 0 => k
  | 1 => j 0

/-- A vertex's value from its four words. -/
def poolOf (x : S50000.Idx → F .f32) (w : Fin 4 → BitVec 32) : F .f32 :=
  FloatOps.mulf
    (FloatOps.addf (FloatOps.addf (FloatOps.addf (FloatOps.addf (FloatOps.addf (FloatOps.addf (FloatOps.addf (FloatOps.addf
      (Scalar.ofBits .f32 0x00000000#32)
      (rowAt x (lo (w 0)))) (rowAt x (hi (w 0)))) (rowAt x (lo (w 1)))) (rowAt x (hi (w 1))))
      (rowAt x (lo (w 2)))) (rowAt x (hi (w 2)))) (rowAt x (lo (w 3)))) (rowAt x (hi (w 3))))
    (Scalar.ofBits .f32 0x3E000000#32)

/-- A chunk's values. -/
def poolAt (x : S50000.Idx → F .f32) (w : S4x1792.Idx → BitVec 32) (j : S1792.Idx) : F .f32 :=
  poolOf x fun k => w (wordIx k j)

end Cert.Proof.Pool
-- ==== Proof.Group.lean ====
/-
  A chunk's groups: sixteen vertices at a time, both rows' values worked out from the packed words and stored. After the
  last group every column of the chunk's two result rows holds its vertex's value.
-/
module

public import proofs.«01_k».proof.Proof.Steps
public import proofs.«01_k».proof.Proof.Spec

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- Assertions of the launch. -/
abbrev Pr (F : FTy → Type) := sProp (MT nD τ sig (HIx 1) (Elt F) ℕ UU ℕ)

/-- The subcore's thread. -/
abbrev thr (d : Dev nD) (L : grid0.Coords) : Thread nD τ := V d (cV L) (jV L)

/-- A program of the subcore runs from `P` to `Q`. -/
abbrev runs (d : Dev nD) (L : grid0.Coords) {α : Type} (p : Tm F L α) (Q : α → Pr F) : Pr F :=
  wp frame (wpE (defs₀ (F := F)) 𝒱₀ (thr d L) none) Set.univ p Q

section Held

variable (d : Dev nD) (L : grid0.Coords) {cs : Space} {s : Shape} {e : EltTy}

/-- The memory a memref names is held outright and reads as `w`. -/
def holds (m : Memref sig .scVector cs s e) (w : s.Idx → Elt F e) : Pr F :=
  iprop(∃ f : Buf (Elt F) (m.view.loc (thr d L)), ⌜m.view.read (Elt F) f = w⌝ ∗ m.view.loc (thr d L) ↦[m.view.set]{fullShare} f)

/-- The memory a memref names is held outright, whatever is in it. -/
def any (m : Memref sig .scVector cs s e) : Pr F :=
  iprop(∃ f : Buf (Elt F) (m.view.loc (thr d L)), m.view.loc (thr d L) ↦[m.view.set]{fullShare} f)

theorem holds_any (m : Memref sig .scVector cs s e) (w : s.Idx → Elt F e) : holds d L m w ⊢ any d L m := by
  unfold holds any
  iintro ⟨%f, -, H⟩
  iexists f; iexact H

end Held

/-- Reading through the whole rectangle of a memref is reading the memref. -/
theorem read_whole {cs : CoreSpace} {s : Shape} {e : EltTy} (m : Memref sig .scVector cs s e) (f : m.view.ty.Contents (Elt F)) :
    (m.access (.whole s)).read (Elt F) f = m.view.read (Elt F) f := by
  funext x
  show m.view.read (Elt F) f ((Rect.whole s).emb x) = _
  rw [Rect.emb_whole_apply]

/-- Lane `y` of group `t`. -/
def lane (t : Fin k0_t2_loop.trips) (y : S16.Idx) : S1792.Idx := (Rect.unit (s := S1792) (k0_off7 t) S16.size (k0_off7_inb t)).emb y

theorem lane_val (t : Fin k0_t2_loop.trips) (y : S16.Idx) : (lane t y 0 : ℕ) = 16 * t.val + y 0 := by
  show k0_off7 t 0 + 1 * (y 0 : ℕ) = _
  rw [k0_off7_eq]; simp

/-- The word row `k` read at group `t`, lane by lane. -/
theorem word_lane (k : Fin 4) (t : Fin k0_t2_loop.trips) {off : Fin 2 → ℕ} (inb : ∀ a, off a + S1x16.size a ≤ S4x1792.size a)
    (hoff : off = ![k.val, 16 * t.val]) (y : S16.Idx) :
    (Rect.unit (s := S4x1792) off S1x16.size inb).emb (Shape.reshapeEquiv shapeCasts_S1x16_S16 y) = wordIx k (lane t y) := by
  subst hoff
  rw [show Shape.reshapeEquiv shapeCasts_S1x16_S16 y = Fin.cons ⟨0, Nat.one_pos⟩ y from Shape.reshapeEquiv_cons_one _ y]
  funext a
  refine Fin.ext ?_
  match a with
  | 0 => show k.val + 1 * 0 = k.val; omega
  | 1 =>
    show 16 * t.val + 1 * (y 0 : ℕ) = (lane t y 0 : ℕ)
    rw [lane_val]; omega

theorem rowAt_loadIdx (x : S50000.Idx → F .f32) (v : IVec S16 32) (h : ∀ a y, ((![v] : Fin 1 → IVec S16 32) a y).toNat < S50000.size a) (y : S16.Idx) :
    loadIdx (F := F) (e := .f32) x ![v] h y = rowAt x (v y) := by
  show x (idxAt _ h y) = x (rowIx (v y))
  congr 1
  funext a
  refine Fin.ext ?_
  obtain rfl : a = 0 := Subsingleton.elim _ _
  exact (Nat.mod_eq_of_lt (h 0 y)).symm

/-- What a word row gives for both rows of `x`. -/
def pairVal (x0 x1 : S50000.Idx → F .f32) (w : S4x1792.Idx → BitVec 32) (k : Fin 4) (t : Fin k0_t2_loop.trips) :
    Vec F S16 .f32 × Vec F S16 .f32 × Vec F S16 .f32 × Vec F S16 .f32 :=
  (fun y => rowAt x0 (lo (w (wordIx k (lane t y)))), fun y => rowAt x0 (hi (w (wordIx k (lane t y)))),
   fun y => rowAt x1 (lo (w (wordIx k (lane t y)))), fun y => rowAt x1 (hi (w (wordIx k (lane t y)))))

section Step

variable (d : Dev nD) (L : grid0.Coords) (slot : Memref sig .scVector .vmem S4x1792 .i32) (r0 r1 : Memref sig .scVector .vmem S50000 .f32)
  (w : S4x1792.Idx → BitVec 32) (x0 x1 : S50000.Idx → F .f32)

/-- What a chunk's groups read: its packed words and both rows of `x`. -/
def reads : Pr F := iprop(holds d L slot (F := F) w ∗ holds d L r0 x0 ∗ holds d L r1 x1)

theorem pairStep_run (hw : Words w) (k : Fin 4) (t : Fin k0_t2_loop.trips) {off : Fin 2 → ℕ} (inb : ∀ a, off a + S1x16.size a ≤ S4x1792.size a)
    (hoff : off = ![k.val, 16 * t.val]) :
    reads d L slot r0 r1 w x0 x1 ⊢ runs d L (pairStep L slot r0 r1 off inb) fun p => iprop(⌜p = pairVal x0 x1 w k t⌝ ∗ reads d L slot r0 r1 w x0 x1) := by
  unfold reads holds pairStep runs
  simp only [Prog.bind_lift]
  iintro ⟨⟨%f, %hf, Hs⟩, ⟨%g0, %hg0, H0⟩, ⟨%g1, %hg1, H1⟩⟩
  iapply (wp_load 𝒱₀ (thr d L) none Set.univ (m := slot) (S := slot.view.set) (View.setOn_subset_set _ _)) $$ Hs; iintro Hs
  have hld : ∀ y, (slot.view.readAt (Elt F) (Rect.unit (s := S4x1792) off S1x16.size inb).toLoadRect f) (Shape.reshapeEquiv shapeCasts_S1x16_S16 y)
      = w (wordIx k (lane t y)) := fun y => by
    rw [← word_lane k t inb hoff y, ← hf]; rfl
  generalize slot.view.readAt (Elt F) (Rect.unit (s := S4x1792) off S1x16.size inb).toLoadRect f = ld at hld ⊢
  have h2 : ∀ y, k0_pay2 (F := F) ld y = lo (w (wordIx k (lane t y))) := fun y => by rw [← hld]; rfl
  have h3 : ∀ y, k0_pay3 (F := F) ld y = hi (w (wordIx k (lane t y))) := fun y => by rw [← hld]; rfl
  have hb (v : IVec S16 32) (hv : ∀ y, (v y).toNat < 50000) : ∀ a y, ((![v] : Fin 1 → IVec S16 32) a y).toNat < S50000.size a := fun a y => by
    obtain rfl : a = 0 := Subsingleton.elim _ _
    exact hv y
  have hb2 := hb (k0_pay2 (F := F) ld) fun y => by rw [h2 y]; exact (hw _).1
  have hb3 := hb (k0_pay3 (F := F) ld) fun y => by rw [h3 y]; exact (hw _).2
  rw [wp_assume_of _ _ _ _ (show k0_chk1 (k0_pay2 (F := F) ld) from ⟨hb2, hb2⟩)]
  rw [wp_assume_of _ _ _ _ (show k0_chk2 (k0_pay3 (F := F) ld) from ⟨hb3, hb3⟩)]
  iapply (SparseCore.wp_vectorLoadIdx 𝒱₀ (thr d L) none Set.univ (base := r0) (S := r0.view.set) (q := fullShare) (View.set_slice_subset _ _)) $$ H0; iintro H0
  iapply (SparseCore.wp_vectorLoadIdx 𝒱₀ (thr d L) none Set.univ (base := r0) (S := r0.view.set) (q := fullShare) (View.set_slice_subset _ _)) $$ H0; iintro H0
  iapply (SparseCore.wp_vectorLoadIdx 𝒱₀ (thr d L) none Set.univ (base := r1) (S := r1.view.set) (q := fullShare) (View.set_slice_subset _ _)) $$ H1; iintro H1
  iapply (SparseCore.wp_vectorLoadIdx 𝒱₀ (thr d L) none Set.univ (base := r1) (S := r1.view.set) (q := fullShare) (View.set_slice_subset _ _)) $$ H1; iintro H1
  rw [wp_pure]
  imodintro
  isplitr
  · ipureintro
    rw [read_whole, read_whole, hg0, hg1]
    refine Prod.ext (funext fun y => ?_) (Prod.ext (funext fun y => ?_) (Prod.ext (funext fun y => ?_) (funext fun y => ?_)))
    · exact (rowAt_loadIdx _ _ _ y).trans (congrArg _ (h2 y))
    · exact (rowAt_loadIdx _ _ _ y).trans (congrArg _ (h3 y))
    · exact (rowAt_loadIdx _ _ _ y).trans (congrArg _ (h2 y))
    · exact (rowAt_loadIdx _ _ _ y).trans (congrArg _ (h3 y))
  isplitl [Hs]; · iexists f; isplitr; · ipureintro; exact hf
                  iexact Hs
  isplitl [H0]; · iexists g0; isplitr; · ipureintro; exact hg0
                  iexact H0
  iexists g1; isplitr; · ipureintro; exact hg1
  iexact H1

/-- The first `n` columns of a chunk's result row hold their vertices' values. -/
def upTo (m : Memref sig .scVector .vmem S1792 .f32) (x : S50000.Idx → F .f32) (n : ℕ) : Pr F :=
  iprop(∃ f : Buf (Elt F) (m.view.loc (thr d L)), ⌜∀ j : S1792.Idx, (j 0 : ℕ) < n → m.view.read (Elt F) f j = poolAt x w j⌝
    ∗ m.view.loc (thr d L) ↦[m.view.set]{fullShare} f)

/-- Storing group `t`'s lanes takes the columns done from `16 t` to `16 (t + 1)`. -/
theorem store_upTo (m : Memref sig .scVector .vmem S1792 .f32) (x : S50000.Idx → F .f32) (t : Fin k0_t2_loop.trips) (v : Vec F S16 .f32)
    (hv : ∀ y, v y = poolAt x w (lane t y)) (f : Buf (Elt F) (m.view.loc (thr d L)))
    (hf : ∀ j : S1792.Idx, (j 0 : ℕ) < 16 * t.val → m.view.read (Elt F) f j = poolAt x w j) (j : S1792.Idx) (hj : (j 0 : ℕ) < 16 * (t.val + 1)) :
    m.view.read (Elt F) ((m.access (Rect.unit (s := S1792) (k0_off7 t) S16.size (k0_off7_inb t))).write (Elt F) f v Finset.univ) j = poolAt x w j := by
  by_cases h : (j 0 : ℕ) < 16 * t.val
  · refine (View.read_slice_write_of_not_mem (v := m.view) _ _ _ _ fun hm => ?_).trans (hf j h)
    obtain ⟨y, -, rfl⟩ := Finset.mem_map.mp hm
    exact absurd (lane_val t y) (by show ¬ (lane t y 0 : ℕ) = _; have : (lane t y 0 : ℕ) < 16 * t.val := h; omega)
  · have hy : (j 0 : ℕ) - 16 * t.val < S16.size 0 := by show _ < 16; omega
    have hj' : j = lane t fun a => ⟨(j 0 : ℕ) - 16 * t.val, by obtain rfl : a = 0 := Subsingleton.elim _ _; exact hy⟩ := by
      funext a
      obtain rfl : a = 0 := Subsingleton.elim _ _
      refine Fin.ext ?_
      rw [lane_val]
      show (j 0 : ℕ) = 16 * t.val + ((j 0 : ℕ) - 16 * t.val)
      omega
    rw [hj']
    exact (View.read_slice_write_emb (v := m.view) _ _ _ (Finset.mem_univ _)).trans (hv _)

variable (o0 o1 : Memref sig .scVector .vmem S1792 .f32)

theorem group_run (hw : Words w) (t : Fin k0_t2_loop.trips) :
    iprop(reads d L slot r0 r1 w x0 x1 ∗ upTo d L w o0 x0 (16 * t.val) ∗ upTo d L w o1 x1 (16 * t.val))
      ⊢ runs d L (group L slot r0 r1 o0 o1 t)
          fun _ => iprop(reads d L slot r0 r1 w x0 x1 ∗ upTo d L w o0 x0 (16 * (t.val + 1)) ∗ upTo d L w o1 x1 (16 * (t.val + 1))) := by
  unfold group
  iintro ⟨Hr, H0, H1⟩
  simp only [wp_bind]
  iapply wp_wand_r; isplitl [Hr]; · iapply (pairStep_run d L slot r0 r1 w x0 x1 hw 0 t (k0_off3_inb t) (k0_off3_eq t)); iexact Hr
  iintro %p0 ⟨%h0, Hr⟩
  iapply wp_wand_r; isplitl [Hr]; · iapply (pairStep_run d L slot r0 r1 w x0 x1 hw 1 t (k0_off4_inb t) (k0_off4_eq t)); iexact Hr
  iintro %p1 ⟨%h1, Hr⟩
  iapply wp_wand_r; isplitl [Hr]; · iapply (pairStep_run d L slot r0 r1 w x0 x1 hw 2 t (k0_off5_inb t) (k0_off5_eq t)); iexact Hr
  iintro %p2 ⟨%h2, Hr⟩
  iapply wp_wand_r; isplitl [Hr]; · iapply (pairStep_run d L slot r0 r1 w x0 x1 hw 3 t (k0_off6_inb t) (k0_off6_eq t)); iexact Hr
  iintro %p3 ⟨%h3, Hr⟩
  subst h0 h1 h2 h3
  simp only [← wp_bind, Prog.bind_lift]
  unfold upTo
  icases H0 with ⟨%f0, %hf0, H0⟩
  icases H1 with ⟨%f1, %hf1, H1⟩
  iapply (wp_load 𝒱₀ (thr d L) none Set.univ (m := o0) (S := o0.view.set) (View.setOn_subset_set _ _)) $$ H0; iintro H0
  iapply (wp_store 𝒱₀ (thr d L) none Set.univ (m := o0) (r := Rect.unit (s := S1792) (k0_off7 t) S16.size (k0_off7_inb t)) (Mk := Finset.univ) (S := o0.view.set) ((View.setOn_subset_set _ _).trans (View.set_slice_subset _ _))) $$ H0; iintro H0
  iapply (wp_load 𝒱₀ (thr d L) none Set.univ (m := o1) (S := o1.view.set) (View.setOn_subset_set _ _)) $$ H1; iintro H1
  iapply (wp_store 𝒱₀ (thr d L) none Set.univ (m := o1) (r := Rect.unit (s := S1792) (k0_off7 t) S16.size (k0_off7_inb t)) (Mk := Finset.univ) (S := o1.view.set) ((View.setOn_subset_set _ _).trans (View.set_slice_subset _ _))) $$ H1; iintro H1
  rw [wp_pure]
  imodintro
  isplitl [Hr]; · iexact Hr
  isplitl [H0]
  · iexists _; isplitr
    · ipureintro; exact fun j hj => store_upTo d L w o0 x0 t _ (fun y => rfl) f0 hf0 j hj
    · iexact H0
  · iexists _; isplitr
    · ipureintro; exact fun j hj => store_upTo d L w o1 x1 t _ (fun y => rfl) f1 hf1 j hj
    · iexact H1

/-- A chunk's groups leave both result rows at the chunk's values. -/
theorem groups_run (hw : Words w) :
    iprop(reads d L slot r0 r1 w x0 x1 ∗ any d L o0 ∗ any d L o1)
      ⊢ runs d L (groups L slot r0 r1 o0 o1)
          fun _ => iprop(reads d L slot r0 r1 w x0 x1 ∗ holds d L o0 (poolAt x0 w) ∗ holds d L o1 (poolAt x1 w)) := by
  unfold groups
  have htr : k0_t2_loop.trips = 112 := by decide +kernel
  refine BIBase.Entails.trans ?_ (Scf.wp_for frame (wpE (defs₀ (F := F)) 𝒱₀ (thr d L) none) Set.univ _ _ _ k0_t2_ok _ _
    (fun k _ => iprop(reads d L slot r0 r1 w x0 x1 ∗ upTo d L w o0 x0 (16 * k) ∗ upTo d L w o1 x1 (16 * k)))
    fun k _ => group_run d L slot r0 r1 w x0 x1 o0 o1 hw k)
  unfold any upTo holds
  iintro ⟨Hr, ⟨%f0, H0⟩, ⟨%f1, H1⟩⟩
  isplitl [Hr H0 H1]
  · isplitl [Hr]; · iexact Hr
    isplitl [H0]
    · iexists f0; isplitr
      · ipureintro; intro j hj; omega
      · iexact H0
    · iexists f1; isplitr
      · ipureintro; intro j hj; omega
      · iexact H1
  · iintro %_ ⟨Hr, ⟨%g0, %hg0, H0⟩, ⟨%g1, %hg1, H1⟩⟩
    have hlt (j : S1792.Idx) : (j 0 : ℕ) < 16 * k0_t2_loop.trips := by rw [htr]; exact (j 0).isLt
    isplitl [Hr]; · iexact Hr
    isplitl [H0]
    · iexists g0; isplitr
      · ipureintro; exact funext fun j => hg0 j (hlt j)
      · iexact H0
    · iexists g1; isplitr
      · ipureintro; exact funext fun j => hg1 j (hlt j)
      · iexact H1

end Step

end Cert.Proof.Pool
-- ==== Proof.Copy.lean ====
/-
  The copies of a pass, one lemma per kind: a row of `x` or a chunk of packed words fetched on a semaphore of its own,
  and a chunk's two result rows leaving on one semaphore, both waited for. A fetched buffer reads as its source; a result
  row's copy leaves the output's elements at their final values.
-/
module

public import proofs.«01_k».proof.Proof.Group

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- A positive share of a whole buffer, at contents `f`. -/
def shr (ℓ : Loc nD τ sig) (f : Buf (Elt F) ℓ) : Pr F := iprop(∃ q : PosShare TreeShare, ℓ ↦[Finset.univ]{q} f)

/-- A share of part of the buffer can be handed out, a share of the whole kept. -/
theorem shr_peel (ℓ : Loc nD τ sig) (f : Buf (Elt F) ℓ) (I : Finset (Idx ℓ)) :
    shr ℓ f ⊢ iprop(shr ℓ f ∗ ∃ q : PosShare TreeShare, ℓ ↦[I]{q} f) := by
  unfold shr
  iintro ⟨%q, H⟩
  ihave H := (pointsTo_share (PosShare.mem_left_op_right q)).1 $$ H
  icases H with ⟨H1, H2⟩
  isplitl [H1]; · iexists q.left; iexact H1
  ihave H2 := (pointsTo_split_subset (Finset.subset_univ I)).1 $$ H2
  icases H2 with ⟨H2, -⟩
  iexists q.right; iexact H2

section Copy

variable (d : Dev nD) (L : grid0.Coords)

/-- A semaphore of the subcore's at zero. -/
def free (s : DmaSem sig) : Pr F := semVal (thr d L, SemLoc.dma s) 0

/-- What the subcore owes, its waits so far recorded: all but those of `W` are its own copies'. -/
def ows (O : CellTallies nD τ sig (HIx 1)) (W : Waits sig (HIx 1)) : Pr F :=
  iprop(∃ W' : Waits sig (HIx 1), ⌜∀ p ∈ W', p ∈ W ∨ p.2 = none⌝ ∗ owes (thr d L) O W')

variable {s : Shape} {e : EltTy}

/-- A fetch under way: at its wait `dst` reads as `w`. -/
def coming (sm : DmaSem sig) (dst : Memref sig .scVector .vmem s e) (w : s.Idx → Elt F e) : Pr F :=
  Flight countersEmb (thr d L) (.dma sm) none dst.view.dmaCredit (holds d L dst w)

theorem fetch_run (src : Memref sig .scVector .hbm s e) (dst : Memref sig .scVector .vmem s e) (hs : 0 < s.numel) (sm : DmaSem sig)
    (hsrc : src.view.WordExact) (hdst : dst.view.WordExact)
    (f : Buf (Elt F) (src.view.loc (thr d L))) :
    iprop(shr (src.view.loc (thr d L)) f ∗ any d L dst ∗ free d L sm)
      ⊢ runs d L (Prog.lift (.enqueueDma src (.here dst) (.dma sm) hsrc hdst ⟨Or.inl rfl, trivial⟩) : Tm F L PUnit)
          fun _ => iprop(shr (src.view.loc (thr d L)) f ∗ coming d L sm dst (src.view.read (Elt F) f)) := by
  unfold any free runs coming
  iintro ⟨Hx, ⟨%g, Hd⟩, Hv⟩
  ihave Hx := shr_peel _ f src.view.set $$ Hx
  icases Hx with ⟨Hx, ⟨%q, Hs⟩⟩
  iapply (wp_dmaLocal countersEmb 𝒱₀ (thr d L) none (src := src) (dst := dst) (sm := .dma sm) (Sd := dst.view.set) none dst.view.dmaCredit rfl
    (View.dmaCredit_pos _ hs) subset_rfl) $$ [Hs Hd Hv]
  · isplitl [Hs]; · iexact Hs
    isplitl [Hd]; · iexact Hd
    iexact Hv
  iintro Hf
  rw [wp_ret]; imodintro
  isplitl [Hx]; · iexact Hx
  iapply (Flight_mono countersEmb (thr d L) ?_) $$ Hf
  unfold holds
  iintro ⟨H, -⟩
  iexists (dst.view.write (Elt F) g (src.view.read (Elt F) f) Finset.univ); isplitr
  · ipureintro; exact View.read_write_univ _ _
  · iexact H

theorem fetched_run (srcw : Memref sig .scVector .hbm s e) (dst : Memref sig .scVector .vmem s e) (sm : DmaSem sig)
    (hsrc : srcw.view.WordExact) (hdst : dst.view.WordExact) (w : s.Idx → Elt F e) (O : CellTallies nD τ sig (HIx 1)) (W : Waits sig (HIx 1)) :
    iprop(MayWaits (thr d L) none O ∗ coming d L sm dst w ∗ ows d L O W)
      ⊢ runs d L (Prog.lift (.waitDma2 sm srcw dst hsrc hdst) : Tm F L PUnit)
          fun _ => iprop(holds d L dst w ∗ free d L sm ∗ ows d L O W) := by
  unfold free runs coming ows
  iintro ⟨Hmw, Hf, ⟨%W', %hW, HO⟩⟩
  iapply (wp_waitLocalO countersEmb 𝒱₀ (thr d L) none none rfl) $$ [Hmw Hf HO]
  · isplitl [Hf]; · iexact Hf
    isplitl [HO]; · iexact HO
    iapply (MayWaits.elim (SemLoc.dma sm)); iexact Hmw
  iintro ⟨H, Hv, HO⟩
  rw [wp_ret]; imodintro
  isplitl [H]; · iexact H
  isplitl [Hv]; · iexact Hv
  iexists (insert (SemLoc.dma sm, none) W'); isplitr
  · ipureintro
    exact fun p hp => (Finset.mem_insert.mp hp).elim (fun h => .inr (by rw [h])) (hW p)
  · iexact HO

/-- The elements under a memref, at the contents `f`. -/
def final (m : Memref sig .scVector .hbm s e) (f : Buf (Elt F) (m.view.loc (thr d L))) : Pr F :=
  iprop(m.view.loc (thr d L) ↦[m.view.set]{fullShare} f)

/-- What a chunk's two result copies deliver. -/
def outD (a b : Memref sig .scVector .vmem s e) (oa ob : Memref sig .scVector .hbm s e) (fa : Buf (Elt F) (oa.view.loc (thr d L)))
    (fb : Buf (Elt F) (ob.view.loc (thr d L))) : Fin 2 → Pr F
  | 0 => iprop(final d L oa fa ∗ any d L a)
  | 1 => iprop(final d L ob fb ∗ any d L b)

instance outD_storable (a b : Memref sig .scVector .vmem s e) (oa ob : Memref sig .scVector .hbm s e) (fa : Buf (Elt F) (oa.view.loc (thr d L)))
    (fb : Buf (Elt F) (ob.view.loc (thr d L))) : ∀ r, Storable (upEmb : UEmb _ (MT nD τ sig (HIx 1) (Elt F) ℕ UU ℕ)) (outD d L a b oa ob fa fb r)
  | 0 => by unfold outD final any; infer_instance
  | 1 => by unfold outD final any; infer_instance

/-- A chunk's two result copies under way, `n` of them issued and `u` units of them waited for. -/
def leaving (sm : DmaSem sig) (a b : Memref sig .scVector .vmem s e) (oa ob : Memref sig .scVector .hbm s e)
    (fa : Buf (Elt F) (oa.view.loc (thr d L))) (fb : Buf (Elt F) (ob.view.loc (thr d L))) (n u : ℕ) : Pr F :=
  Batch countersEmb (thr d L) (.dma sm) none oa.view.dmaCredit (outD d L a b oa ob fa fb) n u

/-- A copy of a buffer reading as the final contents leaves the elements at the final contents. -/
theorem final_of_write {a : Memref sig .scVector .vmem s e} {oa : Memref sig .scVector .hbm s e} (f : Buf (Elt F) (oa.view.loc (thr d L)))
    (g : Buf (Elt F) (a.view.loc (thr d L))) (fd : Buf (Elt F) (oa.view.loc (thr d L)))
    (hg : a.view.read (Elt F) g = oa.view.read (Elt F) f) :
    iprop((oa.view.loc (thr d L) ↦[oa.view.set]{fullShare} (oa.view.write (Elt F) fd (ReadAs.same.apply (a.view.read (Elt F) g)) Finset.univ))
      ∗ (a.view.loc (thr d L) ↦[a.view.set]{fullShare} g)) ⊢ iprop(final d L oa f ∗ any d L a) := by
  unfold final any
  iintro ⟨Ho, Ha⟩
  isplitl [Ho]
  · iapply (BIBase.Entails.of_eq (pointsTo_congr fun i hi => ?_)) $$ Ho
    obtain ⟨x, -, rfl⟩ := Finset.mem_map.mp hi
    rw [View.write_emb_of_mem _ _ (Finset.mem_univ _)]
    show _root_.cast _ (a.view.read (Elt F) g x) = _
    rw [hg, View.read_apply, cast_cast, cast_eq]
  · iexists g; iexact Ha

variable (a b : Memref sig .scVector .vmem s e) (oa ob : Memref sig .scVector .hbm s e) (sm : DmaSem sig)
  (fa : Buf (Elt F) (oa.view.loc (thr d L))) (fb : Buf (Elt F) (ob.view.loc (thr d L)))
  (ha : a.view.WordExact) (hb : b.view.WordExact) (hoa : oa.view.WordExact) (hob : ob.view.WordExact)
  (hN : ob.view.dmaCredit = oa.view.dmaCredit) (hs : 0 < s.numel)

include hN hs in
theorem leave_run (va vb : s.Idx → Elt F e) (hva : va = oa.view.read (Elt F) fa) (hvb : vb = ob.view.read (Elt F) fb) :
    iprop(holds d L a va ∗ holds d L b vb ∗ any d L oa ∗ any d L ob ∗ free d L sm)
      ⊢ runs d L (do Prog.lift (.enqueueDma a (.here oa) (.dma sm) ha hoa ⟨Or.inl rfl, trivial⟩)
                     Prog.lift (.enqueueDma b (.here ob) (.dma sm) hb hob ⟨Or.inl rfl, trivial⟩) : Tm F L PUnit)
          fun _ => leaving d L sm a b oa ob fa fb 2 0 := by
  have hN0 := View.dmaCredit_pos oa.view hs
  unfold holds any free runs leaving
  simp only [Prog.bind_lift]
  iintro ⟨⟨%ga, %hga, Ha⟩, ⟨%gb, %hgb, Hb⟩, ⟨%ea, Hoa⟩, ⟨%eb, Hob⟩, Hv⟩
  imod (batch_alloc' countersEmb (thr d L) none oa.view.dmaCredit (outD d L a b oa ob fa fb)) $$ Hv with HB
  iapply (wp_dmaBatch countersEmb 𝒱₀ (thr d L) none (src := a) (dst := oa) (sm := .dma sm) (Sd := oa.view.set) (D := outD d L a b oa ob fa fb)
    (j := 0) (u := 0) none oa.view.dmaCredit rfl subset_rfl (by decide) (by omega) (final_of_write d L fa ga ea (hga.trans hva))) $$ [Ha Hoa HB]
  · isplitl [Ha]; · iexact Ha
    isplitl [Hoa]; · iexact Hoa
    iexact HB
  iintro HB
  iapply (wp_dmaBatch countersEmb 𝒱₀ (thr d L) none (src := b) (dst := ob) (sm := .dma sm) (Sd := ob.view.set) (D := outD d L a b oa ob fa fb)
    (j := 1) (u := 0) none oa.view.dmaCredit hN subset_rfl (by decide) (by omega) (final_of_write d L fb gb eb (hgb.trans hvb))) $$ [Hb Hob HB]
  · isplitl [Hb]; · iexact Hb
    isplitl [Hob]; · iexact Hob
    iexact HB
  iintro HB
  rw [wp_ret]; imodintro
  iexact HB

include hs in
theorem left0_run (O : CellTallies nD τ sig (HIx 1)) (W : Waits sig (HIx 1)) :
    iprop(MayWaits (thr d L) none O ∗ leaving d L sm a b oa ob fa fb 2 0 ∗ ows d L O W)
      ⊢ runs d L (Prog.lift (.waitDma2 sm a oa ha hoa) : Tm F L PUnit)
          fun _ => iprop(leaving d L sm a b oa ob fa fb 2 oa.view.dmaCredit ∗ ows d L O W) := by
  have hN0 := View.dmaCredit_pos oa.view hs
  unfold runs leaving ows
  iintro ⟨Hmw, HB, ⟨%W', %hW, HO⟩⟩
  iapply (wp_waitBatchO countersEmb 𝒱₀ (thr d L) none none rfl (D := outD d L a b oa ob fa fb) (u := 0) (by omega)) $$ [Hmw HB HO]
  · isplitl [HB]; · iexact HB
    isplitl [HO]; · iexact HO
    iapply (MayWaits.elim (SemLoc.dma sm)); iexact Hmw
  iintro ⟨HB, HO⟩
  rw [wp_ret]; imodintro
  rw [Nat.zero_add]
  isplitl [HB]; · iexact HB
  iexists (insert (SemLoc.dma sm, none) W'); isplitr
  · ipureintro
    exact fun p hp => (Finset.mem_insert.mp hp).elim (fun h => .inr (by rw [h])) (hW p)
  · iexact HO

include hN hs in
theorem left1_run (O : CellTallies nD τ sig (HIx 1)) (W : Waits sig (HIx 1)) :
    iprop(MayWaits (thr d L) none O ∗ leaving d L sm a b oa ob fa fb 2 oa.view.dmaCredit ∗ ows d L O W)
      ⊢ runs d L (Prog.lift (.waitDma2 sm b ob hb hob) : Tm F L PUnit)
          fun _ => iprop((final d L oa fa ∗ any d L a) ∗ (final d L ob fb ∗ any d L b) ∗ free d L sm ∗ ows d L O W) := by
  have hN0 := View.dmaCredit_pos oa.view hs
  unfold runs leaving ows free
  iintro ⟨Hmw, HB, ⟨%W', %hW, HO⟩⟩
  iapply (wp_waitBatchLastO countersEmb 𝒱₀ (thr d L) none none hN hN0 (D := outD d L a b oa ob fa fb) (u := oa.view.dmaCredit) (by omega)) $$ [Hmw HB HO]
  · isplitl [HB]; · iexact HB
    isplitl [HO]; · iexact HO
    iapply (MayWaits.elim (SemLoc.dma sm)); iexact Hmw
  iintro ⟨HD, Hv, HO⟩
  rw [wp_ret]; imodintro
  ihave HD := (show bigSep Finset.univ (outD d L a b oa ob fa fb) ⊢ iprop((final d L oa fa ∗ any d L a) ∗ (final d L ob fb ∗ any d L b))
    from BIBase.Entails.of_eq (BI.bigSep_fin_two _)) $$ HD
  icases HD with ⟨H0, H1⟩
  isplitl [H0]; · iexact H0
  isplitl [H1]; · iexact H1
  isplitl [Hv]; · iexact Hv
  iexists (insert (SemLoc.dma sm, none) W'); isplitr
  · ipureintro
    exact fun p hp => (Finset.mem_insert.mp hp).elim (fun h => .inr (by rw [h])) (hW p)
  · iexact HO

end Copy

end Cert.Proof.Pool
-- ==== Proof.Pass.lean ====
/-
  One pass: from a tile's buffers free and the pass's fourteen pieces of the output at whatever they hold to the buffers
  free again and the pieces at their final values.
-/
module

public import proofs.«01_k».proof.Proof.Copy

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (d : Dev nD) (L : grid0.Coords)

/-! ## A chunk's steps on a side -/

section Side

variable (C : Side) (O : CellTallies nD τ sig (HIx 1)) (W : Waits sig (HIx 1))
  (pk : Buf (Elt F) (iLoc d)) (out : Buf (Elt F) (oLoc d))

/-- The packed words of a chunk. -/
def words (o : ℕ) (inb : ∀ a, (![0, o] : Fin 2 → ℕ) a + S4x1792.size a ≤ S4x12544.size a) : S4x1792.Idx → BitVec 32 :=
  (iCh o inb).view.read (Elt F) pk

variable {o : ℕ} {inb : ∀ a, (![0, o] : Fin 2 → ℕ) a + S4x1792.size a ≤ S4x12544.size a}
  {off : BitVec 32 → Fin 3 → ℕ} {oinb : OffIn off}

/-- A chunk's two pieces of the output, at whatever they hold and at `out`; its two copies on their way there. -/
def oldAt (off : BitVec 32 → Fin 3 → ℕ) (oinb : OffIn off) : Pr F :=
  iprop(any d L (oCh (off 0#32) (oinb 0)) ∗ any d L (oCh (off 1#32) (oinb 1)))
def newAt (off : BitVec 32 → Fin 3 → ℕ) (oinb : OffIn off) : Pr F :=
  iprop(final d L (oCh (off 0#32) (oinb 0)) out ∗ final d L (oCh (off 1#32) (oinb 1)) out)
def outs (off : BitVec 32 → Fin 3 → ℕ) (oinb : OffIn off) (u : ℕ) : Pr F :=
  leaving d L C.so C.a C.b (oCh (off 0#32) (oinb 0)) (oCh (off 1#32) (oinb 1)) out out 2 u

/-- Both rows of `x` at hand. -/
def rows (x0 x1 : S50000.Idx → F .f32) : Pr F := iprop(holds d L sR0 x0 ∗ holds d L sR1 x1)

/-- The output's two pieces at a chunk are the chunk's values. -/
def Fits (x0 x1 : S50000.Idx → F .f32) (w : S4x1792.Idx → BitVec 32) (off : BitVec 32 → Fin 3 → ℕ) (oinb : OffIn off) : Prop :=
  poolAt x0 w = (oCh (off 0#32) (oinb 0)).view.read (Elt F) out ∧ poolAt x1 w = (oCh (off 1#32) (oinb 1)).view.read (Elt F) out

theorem chIn_run : iprop(shr (iLoc d) pk ∗ any d L C.slot ∗ free d L C.si)
    ⊢ runs d L (chIn L C o inb) fun _ => iprop(shr (iLoc d) pk ∗ coming d L C.si C.slot (words d pk o inb)) :=
  fetch_run d L (iCh o inb) C.slot (by decide) C.si wx_iCh C.wslot pk

theorem chGot_run (w : S4x1792.Idx → BitVec 32) : iprop(MayWaits (thr d L) none O ∗ coming d L C.si C.slot w ∗ ows d L O W)
    ⊢ runs d L (chGot L C o inb) fun _ => iprop(holds d L C.slot (F := F) w ∗ free d L C.si ∗ ows d L O W) :=
  fetched_run d L (iCh o inb) C.slot C.si wx_iCh C.wslot w O W

theorem chRun_run (w : S4x1792.Idx → BitVec 32) (hw : Words w) (x0 x1 : S50000.Idx → F .f32) :
    iprop(holds d L C.slot (F := F) w ∗ rows d L x0 x1 ∗ any d L C.a ∗ any d L C.b)
      ⊢ runs d L (chRun L C) fun _ => iprop(any d L C.slot ∗ rows d L x0 x1 ∗ holds d L C.a (poolAt x0 w) ∗ holds d L C.b (poolAt x1 w)) := by
  unfold rows
  iintro ⟨Hs, ⟨H0, H1⟩, Ha, Hb⟩
  iapply wp_wand_r
  isplitl [Hs H0 H1 Ha Hb]
  · iapply (groups_run d L C.slot sR0 sR1 w x0 x1 C.a C.b hw)
    unfold reads
    isplitl [Hs H0 H1]
    · isplitl [Hs]; · iexact Hs
      isplitl [H0]; · iexact H0
      iexact H1
    · isplitl [Ha]; · iexact Ha
      iexact Hb
  · unfold reads
    iintro %_ ⟨⟨Hs, H0, H1⟩, Ha, Hb⟩
    isplitl [Hs]; · iapply (holds_any d L C.slot w); iexact Hs
    isplitl [H0 H1]
    · isplitl [H0]; · iexact H0
      iexact H1
    isplitl [Ha]; · iexact Ha
    iexact Hb

theorem chOut_run (w : S4x1792.Idx → BitVec 32) (x0 x1 : S50000.Idx → F .f32) (hf : Fits d out x0 x1 w off oinb) :
    iprop(holds d L C.a (poolAt x0 w) ∗ holds d L C.b (poolAt x1 w) ∗ oldAt d L off oinb ∗ free d L C.so)
      ⊢ runs d L (chOut L C off oinb) fun _ => outs d L C out off oinb 0 := by
  unfold oldAt
  iintro ⟨Ha, Hb, ⟨Hoa, Hob⟩, Hv⟩
  iapply (leave_run d L C.a C.b (oCh (off 0#32) (oinb 0)) (oCh (off 1#32) (oinb 1)) C.so out out C.wa C.wb wx_oCh wx_oCh rfl (by decide)
    (poolAt x0 w) (poolAt x1 w) hf.1 hf.2)
  isplitl [Ha]; · iexact Ha
  isplitl [Hb]; · iexact Hb
  isplitl [Hoa]; · iexact Hoa
  isplitl [Hob]; · iexact Hob
  iexact Hv

theorem chDone0_run : iprop(MayWaits (thr d L) none O ∗ outs d L C out off oinb 0 ∗ ows d L O W)
    ⊢ runs d L (chDone1 L C 0 off oinb) fun _ => iprop(outs d L C out off oinb (oCh (off 0#32) (oinb 0)).view.dmaCredit ∗ ows d L O W) :=
  left0_run d L C.a C.b (oCh (off 0#32) (oinb 0)) (oCh (off 1#32) (oinb 1)) C.so out out C.wa wx_oCh (by decide) O W

theorem chDone1_run : iprop(MayWaits (thr d L) none O ∗ outs d L C out off oinb (oCh (off 0#32) (oinb 0)).view.dmaCredit ∗ ows d L O W)
    ⊢ runs d L (chDone1 L C 1 off oinb) fun _ => iprop(newAt d L out off oinb ∗ any d L C.a ∗ any d L C.b ∗ free d L C.so ∗ ows d L O W) := by
  iintro H
  iapply wp_wand_r
  isplitl [H]
  · iapply (left1_run d L C.a C.b (oCh (off 0#32) (oinb 0)) (oCh (off 1#32) (oinb 1)) C.so out out C.wb wx_oCh rfl (by decide) O W)
    iexact H
  · unfold newAt
    iintro %_ ⟨⟨H0, Ha⟩, ⟨H1, Hb⟩, Hv, HO⟩
    isplitl [H0 H1]
    · isplitl [H0]; · iexact H0
      iexact H1
    isplitl [Ha]; · iexact Ha
    isplitl [Hb]; · iexact Hb
    isplitl [Hv]; · iexact Hv
    iexact HO

theorem chDone_run : iprop(MayWaits (thr d L) none O ∗ outs d L C out off oinb 0 ∗ ows d L O W)
    ⊢ runs d L (chDone L C off oinb) fun _ => iprop(newAt d L out off oinb ∗ any d L C.a ∗ any d L C.b ∗ free d L C.so ∗ ows d L O W) := by
  show _ ⊢ runs d L (chDone1 L C 0 off oinb >>= fun _ => chDone1 L C 1 off oinb) _
  unfold runs
  rw [wp_bind]
  iintro ⟨#Hmw, Hb, HO⟩
  iapply wp_wand_r
  isplitl [Hb HO]
  · iapply (chDone0_run d L C O W out (off := off) (oinb := oinb))
    isplitr; · iexact Hmw
    isplitl [Hb]; · iexact Hb
    iexact HO
  · iintro %_ ⟨Hb, HO⟩
    iapply (chDone1_run d L C O W out (off := off) (oinb := oinb))
    isplitr; · iexact Hmw
    isplitl [Hb]; · iexact Hb
    iexact HO

/-- A side's slot with no fetch under way; a side's result rows with no copy under way. -/
def idle : Pr F := iprop(any d L C.slot ∗ free d L C.si)
def quiet : Pr F := iprop(any d L C.a ∗ any d L C.b ∗ free d L C.so)

variable (C' : Side) {o' : ℕ} {inb' : ∀ a, (![0, o'] : Fin 2 → ℕ) a + S4x1792.size a ≤ S4x12544.size a}

/-- A chunk's words arrive and the next chunk's are sent for. -/
theorem next_run (w : S4x1792.Idx → BitVec 32) (G : Pr F) :
    iprop(MayWaits (thr d L) none O ∗ coming d L C.si C.slot w ∗ idle d L C' ∗ shr (iLoc d) pk ∗ ows d L O W)
      ⊢ iprop(((holds d L C.slot (F := F) w ∗ free d L C.si) ∗ coming d L C'.si C'.slot (words d pk o' inb') ∗ shr (iLoc d) pk ∗ ows d L O W -∗ G)
        -∗ runs d L (chGot L C o inb) fun _ => runs d L (chIn L C' o' inb') fun _ => G) := by
  unfold idle
  iintro ⟨#Hmw, Hc, ⟨Hs, Hv⟩, Hi, HO⟩ HG
  iapply wp_wand_r
  isplitl [Hc HO]
  · iapply (chGot_run d L C O W w)
    isplitr; · iexact Hmw
    isplitl [Hc]; · iexact Hc
    iexact HO
  iintro %_ ⟨Hw, Hf, HO⟩
  iapply wp_wand_r
  isplitl [Hs Hv Hi]
  · iapply (chIn_run d L C' pk)
    isplitl [Hi]; · iexact Hi
    isplitl [Hs]; · iexact Hs
    iexact Hv
  iintro %_ ⟨Hi, Hc⟩
  iapply HG
  isplitl [Hw Hf]
  · isplitl [Hw]; · iexact Hw
    iexact Hf
  isplitl [Hc]; · iexact Hc
  isplitl [Hi]; · iexact Hi
  iexact HO

/-- A chunk's groups are run and its result rows sent off. -/
theorem work_run (w : S4x1792.Idx → BitVec 32) (hw : Words w) (x0 x1 : S50000.Idx → F .f32) (hf : Fits d out x0 x1 w off oinb) (G : Pr F) :
    iprop((holds d L C.slot (F := F) w ∗ free d L C.si) ∗ rows d L x0 x1 ∗ quiet d L C ∗ oldAt d L off oinb)
      ⊢ iprop((idle d L C ∗ rows d L x0 x1 ∗ outs d L C out off oinb 0 -∗ G)
        -∗ runs d L (chRun L C) fun _ => runs d L (chOut L C off oinb) fun _ => G) := by
  unfold idle quiet
  iintro ⟨⟨Hw, Hf⟩, Hr, ⟨Ha, Hb, Hv⟩, Ho⟩ HG
  iapply wp_wand_r
  isplitl [Hw Hr Ha Hb]
  · iapply (chRun_run d L C w hw x0 x1)
    isplitl [Hw]; · iexact Hw
    isplitl [Hr]; · iexact Hr
    isplitl [Ha]; · iexact Ha
    iexact Hb
  iintro %_ ⟨Hs, Hr, Ha, Hb⟩
  iapply wp_wand_r
  isplitl [Ha Hb Ho Hv]
  · iapply (chOut_run d L C out w x0 x1 hf)
    isplitl [Ha]; · iexact Ha
    isplitl [Hb]; · iexact Hb
    isplitl [Ho]; · iexact Ho
    iexact Hv
  iintro %_ HB
  iapply HG
  isplitl [Hs Hf]
  · isplitl [Hs]; · iexact Hs
    iexact Hf
  isplitl [Hr]; · iexact Hr
  iexact HB

/-- A chunk's result rows have left. -/
theorem gone_run (G : Pr F) :
    iprop(MayWaits (thr d L) none O ∗ outs d L C out off oinb 0 ∗ ows d L O W)
      ⊢ iprop((newAt d L out off oinb ∗ quiet d L C ∗ ows d L O W -∗ G) -∗ runs d L (chDone L C off oinb) fun _ => G) := by
  unfold quiet
  iintro H HG
  iapply wp_wand_r
  isplitl [H]; · iapply (chDone_run d L C O W out (off := off) (oinb := oinb)); iexact H
  iintro %_ ⟨Hn, Ha, Hb, Hv, HO⟩
  iapply HG
  isplitl [Hn]; · iexact Hn
  isplitl [Ha Hb Hv]
  · isplitl [Ha]; · iexact Ha
    isplitl [Hb]; · iexact Hb
    iexact Hv
  iexact HO

/-- The same by its two waits. -/
theorem gone0_run (G : Pr F) :
    iprop(MayWaits (thr d L) none O ∗ outs d L C out off oinb 0 ∗ ows d L O W)
      ⊢ iprop((outs d L C out off oinb (oCh (off 0#32) (oinb 0)).view.dmaCredit ∗ ows d L O W -∗ G) -∗ runs d L (chDone1 L C 0 off oinb) fun _ => G) := by
  iintro H HG
  iapply wp_wand_r
  isplitl [H]; · iapply (chDone0_run d L C O W out (off := off) (oinb := oinb)); iexact H
  iintro %_ H
  iapply HG; iexact H

theorem gone1_run (G : Pr F) :
    iprop(MayWaits (thr d L) none O ∗ outs d L C out off oinb (oCh (off 0#32) (oinb 0)).view.dmaCredit ∗ ows d L O W)
      ⊢ iprop((newAt d L out off oinb ∗ quiet d L C ∗ ows d L O W -∗ G) -∗ runs d L (chDone1 L C 1 off oinb) fun _ => G) := by
  unfold quiet
  iintro H HG
  iapply wp_wand_r
  isplitl [H]; · iapply (chDone1_run d L C O W out (off := off) (oinb := oinb)); iexact H
  iintro %_ ⟨Hn, Ha, Hb, Hv, HO⟩
  iapply HG
  isplitl [Hn]; · iexact Hn
  isplitl [Ha Hb Hv]
  · isplitl [Ha]; · iexact Ha
    isplitl [Hb]; · iexact Hb
    iexact Hv
  iexact HO

end Side

/-! ## The pass -/

/-- The output offsets of chunk `c` of a pass, by row. -/
def offO (p : Fin k0_t1_loop.trips) : Fin 7 → BitVec 32 → Fin 3 → ℕ
  | 0 => k0_off8 L p | 1 => k0_off14 L p | 2 => k0_off20 L p | 3 => k0_off26 L p
  | 4 => k0_off32 L p | 5 => k0_off38 L p | 6 => k0_off44 L p
theorem offO_inb (p : Fin k0_t1_loop.trips) : ∀ c, OffIn (offO L p c)
  | 0 => k0_off8_inb L p | 1 => k0_off14_inb L p | 2 => k0_off20_inb L p | 3 => k0_off26_inb L p
  | 4 => k0_off32_inb L p | 5 => k0_off38_inb L p | 6 => k0_off44_inb L p

theorem col_inb (c : Fin 7) : ∀ a, (![0, 1792 * c.val] : Fin 2 → ℕ) a + S4x1792.size a ≤ S4x12544.size a := by
  revert c; decide

/-- A tile's buffers and semaphores, nothing under way. -/
def rest : Pr F :=
  iprop((any d L sR0 ∗ any d L sR1) ∗ (idle d L sideA ∗ idle d L sideB) ∗ (quiet d L sideA ∗ quiet d L sideB)
    ∗ free d L cc0_scratch7.sem ∗ free d L cc0_scratch8.sem)

variable (O : CellTallies nD τ sig (HIx 1)) (W : Waits sig (HIx 1))
  (x : Buf (Elt F) (xLoc d)) (pk : Buf (Elt F) (iLoc d)) (out : Buf (Elt F) (oLoc d))

/-- What every pass keeps: shares of `x` and of the packed table, the buffers, what is owed. -/
def keep : Pr F := iprop((shr (xLoc d) x ∗ shr (iLoc d) pk) ∗ rest d L ∗ ows d L O W)

def olds (p : Fin k0_t1_loop.trips) : Pr F := bigSep Finset.univ fun c : Fin 7 => oldAt d L (offO L p c) (offO_inb L p c)
def news (p : Fin k0_t1_loop.trips) : Pr F := bigSep Finset.univ fun c : Fin 7 => newAt d L out (offO L p c) (offO_inb L p c)

theorem bigSep_seven (Φ : Fin 7 → Pr F) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The rows of `x` a pass fetches. -/
def row0 (p : Fin k0_t1_loop.trips) : S50000.Idx → F .f32 := (xRow (k0_off1 L p) (k0_off1_inb L p)).view.read (Elt F) x
def row1 (p : Fin k0_t1_loop.trips) : S50000.Idx → F .f32 := (xRow (k0_off2 L p) (k0_off2_inb L p)).view.read (Elt F) x

theorem pass_run (p : Fin k0_t1_loop.trips) (hw : ∀ c : Fin 7, Words (words d pk (1792 * c.val) (col_inb c)))
    (hf : ∀ c : Fin 7, Fits d out (row0 d L x p) (row1 d L x p) (words d pk (1792 * c.val) (col_inb c)) (offO L p c) (offO_inb L p c)) :
    iprop(MayWaits (thr d L) none O ∗ keep d L O W x pk ∗ olds d L p)
      ⊢ runs d L (pass L p) fun _ => iprop(keep d L O W x pk ∗ news d L out p) := by
  unfold pass passBulk rowsIn chunk0 chunk1 chunk2 chunk3 chunk34 chunk45 chunk56 rowStart rowWait runs keep rest olds news
  rw [bigSep_seven, bigSep_seven]
  simp only [bind_pure_unit, wp_bind]
  iintro ⟨#Hmw, ⟨⟨Hx, Hi⟩, ⟨⟨HR0, HR1⟩, ⟨HIA, HIB⟩, ⟨HQA, HQB⟩, Hv0, Hv1⟩, HO⟩, P0, P1, P2, P3, P4, P5, P6⟩
  -- the rows and the first chunk's words
  iapply wp_wand_r; isplitl [Hx HR0 Hv0]
  · iapply (fetch_run d L (xRow (k0_off1 L p) (k0_off1_inb L p)) sR0 (by decide) cc0_scratch7.sem wx_xRow (wx_whole _) x)
    isplitl [Hx]; · iexact Hx
    isplitl [HR0]; · iexact HR0
    iexact Hv0
  iintro %_ ⟨Hx, HR0⟩
  iapply wp_wand_r; isplitl [Hx HR1 Hv1]
  · iapply (fetch_run d L (xRow (k0_off2 L p) (k0_off2_inb L p)) sR1 (by decide) cc0_scratch8.sem wx_xRow (wx_whole _) x)
    isplitl [Hx]; · iexact Hx
    isplitl [HR1]; · iexact HR1
    iexact Hv1
  iintro %_ ⟨Hx, HR1⟩
  iapply wp_wand_r; isplitl [Hi HIA]
  · unfold idle
    icases HIA with ⟨Hs, Hv⟩
    iapply (chIn_run d L sideA pk)
    isplitl [Hi]; · iexact Hi
    isplitl [Hs]; · iexact Hs
    iexact Hv
  iintro %_ ⟨Hi, HA⟩
  iapply wp_wand_r; isplitl [HR0 HO]
  · iapply (fetched_run d L (xRow (k0_off1 L p) (k0_off1_inb L p)) sR0 cc0_scratch7.sem wx_xRow (wx_whole _) (row0 d L x p) O W)
    isplitr; · iexact Hmw
    isplitl [HR0]; · iexact HR0
    iexact HO
  iintro %_ ⟨HR0, Hv0, HO⟩
  iapply wp_wand_r; isplitl [HR1 HO]
  · iapply (fetched_run d L (xRow (k0_off2 L p) (k0_off2_inb L p)) sR1 cc0_scratch8.sem wx_xRow (wx_whole _) (row1 d L x p) O W)
    isplitr; · iexact Hmw
    isplitl [HR1]; · iexact HR1
    iexact HO
  iintro %_ ⟨HR1, Hv1, HO⟩
  ihave HR : rows d L (row0 d L x p) (row1 d L x p) $$ [HR0 HR1]
  · unfold rows
    isplitl [HR0]; · iexact HR0
    iexact HR1
  -- the chunks
  iapply (next_run d L sideA O W pk sideB _) $$ [HA HIB Hi HO]
  · isplitr; · iexact Hmw
    isplitl [HA]; · iexact HA
    isplitl [HIB]; · iexact HIB
    isplitl [Hi]; · iexact Hi
    iexact HO
  iintro ⟨HA, HB, Hi, HO⟩
  iapply (work_run d L sideA out _ (hw 0) _ _ (hf 0)) $$ [HA HR HQA P0]
  · isplitl [HA]; · iexact HA
    isplitl [HR]; · iexact HR
    isplitl [HQA]; · iexact HQA
    iexact P0
  iintro ⟨HIA, HR, E0⟩
  iapply (next_run d L sideB O W pk sideA _) $$ [HB HIA Hi HO]
  · isplitr; · iexact Hmw
    isplitl [HB]; · iexact HB
    isplitl [HIA]; · iexact HIA
    isplitl [Hi]; · iexact Hi
    iexact HO
  iintro ⟨HB, HA, Hi, HO⟩
  iapply (work_run d L sideB out _ (hw 1) _ _ (hf 1)) $$ [HB HR HQB P1]
  · isplitl [HB]; · iexact HB
    isplitl [HR]; · iexact HR
    isplitl [HQB]; · iexact HQB
    iexact P1
  iintro ⟨HIB, HR, E1⟩
  iapply (next_run d L sideA O W pk sideB _) $$ [HA HIB Hi HO]
  · isplitr; · iexact Hmw
    isplitl [HA]; · iexact HA
    isplitl [HIB]; · iexact HIB
    isplitl [Hi]; · iexact Hi
    iexact HO
  iintro ⟨HA, HB, Hi, HO⟩
  iapply (gone_run d L sideA O W out) $$ [E0 HO]
  · isplitr; · iexact Hmw
    isplitl [E0]; · iexact E0
    iexact HO
  iintro ⟨N0, HQA, HO⟩
  iapply (work_run d L sideA out _ (hw 2) _ _ (hf 2)) $$ [HA HR HQA P2]
  · isplitl [HA]; · iexact HA
    isplitl [HR]; · iexact HR
    isplitl [HQA]; · iexact HQA
    iexact P2
  iintro ⟨HIA, HR, E2⟩
  iapply (next_run d L sideB O W pk sideA _) $$ [HB HIA Hi HO]
  · isplitr; · iexact Hmw
    isplitl [HB]; · iexact HB
    isplitl [HIA]; · iexact HIA
    isplitl [Hi]; · iexact Hi
    iexact HO
  iintro ⟨HB, HA, Hi, HO⟩
  iapply (gone_run d L sideB O W out) $$ [E1 HO]
  · isplitr; · iexact Hmw
    isplitl [E1]; · iexact E1
    iexact HO
  iintro ⟨N1, HQB, HO⟩
  iapply (work_run d L sideB out _ (hw 3) _ _ (hf 3)) $$ [HB HR HQB P3]
  · isplitl [HB]; · iexact HB
    isplitl [HR]; · iexact HR
    isplitl [HQB]; · iexact HQB
    iexact P3
  iintro ⟨HIB, HR, E3⟩
  iapply (next_run d L sideA O W pk sideB _) $$ [HA HIB Hi HO]
  · isplitr; · iexact Hmw
    isplitl [HA]; · iexact HA
    isplitl [HIB]; · iexact HIB
    isplitl [Hi]; · iexact Hi
    iexact HO
  iintro ⟨HA, HB, Hi, HO⟩
  iapply (gone_run d L sideA O W out) $$ [E2 HO]
  · isplitr; · iexact Hmw
    isplitl [E2]; · iexact E2
    iexact HO
  iintro ⟨N2, HQA, HO⟩
  iapply (work_run d L sideA out _ (hw 4) _ _ (hf 4)) $$ [HA HR HQA P4]
  · isplitl [HA]; · iexact HA
    isplitl [HR]; · iexact HR
    isplitl [HQA]; · iexact HQA
    iexact P4
  iintro ⟨HIA, HR, E4⟩
  iapply (next_run d L sideB O W pk sideA _) $$ [HB HIA Hi HO]
  · isplitr; · iexact Hmw
    isplitl [HB]; · iexact HB
    isplitl [HIA]; · iexact HIA
    isplitl [Hi]; · iexact Hi
    iexact HO
  iintro ⟨HB, HA, Hi, HO⟩
  iapply (gone_run d L sideB O W out) $$ [E3 HO]
  · isplitr; · iexact Hmw
    isplitl [E3]; · iexact E3
    iexact HO
  iintro ⟨N3, HQB, HO⟩
  iapply (work_run d L sideB out _ (hw 5) _ _ (hf 5)) $$ [HB HR HQB P5]
  · isplitl [HB]; · iexact HB
    isplitl [HR]; · iexact HR
    isplitl [HQB]; · iexact HQB
    iexact P5
  iintro ⟨HIB, HR, E5⟩
  -- the last chunk's words arrive, nothing more is sent for
  iapply wp_wand_r; isplitl [HA HO]
  · iapply (chGot_run d L sideA O W _)
    isplitr; · iexact Hmw
    isplitl [HA]; · iexact HA
    iexact HO
  iintro %_ ⟨HA, HV, HO⟩
  ihave HA : iprop(holds d L sideA.slot (F := F) (words d pk (1792 * (6 : Fin 7).val) (col_inb 6)) ∗ free d L sideA.si) $$ [HA HV]
  · isplitl [HA]; · iexact HA
    iexact HV
  iapply (gone0_run d L sideA O W out) $$ [E4 HO]
  · isplitr; · iexact Hmw
    isplitl [E4]; · iexact E4
    iexact HO
  iintro ⟨E4, HO⟩
  iapply (gone1_run d L sideA O W out) $$ [E4 HO]
  · isplitr; · iexact Hmw
    isplitl [E4]; · iexact E4
    iexact HO
  iintro ⟨N4, HQA, HO⟩
  iapply (work_run d L sideA out _ (hw 6) _ _ (hf 6)) $$ [HA HR HQA P6]
  · isplitl [HA]; · iexact HA
    isplitl [HR]; · iexact HR
    isplitl [HQA]; · iexact HQA
    iexact P6
  iintro ⟨HIA, HR, E6⟩
  iapply (gone_run d L sideB O W out) $$ [E5 HO]
  · isplitr; · iexact Hmw
    isplitl [E5]; · iexact E5
    iexact HO
  iintro ⟨N5, HQB, HO⟩
  iapply (gone0_run d L sideA O W out) $$ [E6 HO]
  · isplitr; · iexact Hmw
    isplitl [E6]; · iexact E6
    iexact HO
  iintro ⟨E6, HO⟩
  iapply (gone1_run d L sideA O W out) $$ [E6 HO]
  · isplitr; · iexact Hmw
    isplitl [E6]; · iexact E6
    iexact HO
  iintro ⟨N6, HQA, HO⟩
  isplitl [Hx Hi HR HIA HIB HQA HQB Hv0 Hv1 HO]
  · isplitl [Hx Hi]
    · isplitl [Hx]; · iexact Hx
      iexact Hi
    isplitr [HO]
    · unfold rows
      icases HR with ⟨HR0, HR1⟩
      isplitl [HR0 HR1]
      · isplitl [HR0]; · iapply (holds_any d L sR0 _); iexact HR0
        iapply (holds_any d L sR1 _); iexact HR1
      isplitl [HIA HIB]
      · isplitl [HIA]; · iexact HIA
        iexact HIB
      isplitl [HQA HQB]
      · isplitl [HQA]; · iexact HQA
        iexact HQB
      isplitl [Hv0]; · iexact Hv0
      iexact Hv1
    · iexact HO
  isplitl [N0]; · iexact N0
  isplitl [N1]; · iexact N1
  isplitl [N2]; · iexact N2
  isplitl [N3]; · iexact N3
  isplitl [N4]; · iexact N4
  isplitl [N5]; · iexact N5
  iexact N6

end Cert.Proof.Pool
-- ==== Proof.Places.lean ====
/-
  Where the copies go: a tile's pass `p` works on the two consecutive rows `32·s₀ + 16·c₀ + 2p` and the next of the 512
  (batch, channel) rows, chunk `c` of it on the columns from `1792·c`. Hence what every piece of the output must end at,
  and which elements a piece has.
-/
module

public import proofs.«01_k».proof.Proof.Pass

@[expose] public section

noncomputable section

namespace Cert.Proof.Pool

open Cert.KernelIdeal Cert.KernelIdeal.Gen
open Idealize.ShloMosaic
open Idealize.ShloMosaic.SparseCore (S V T)

variable {F : FTy → Type} [FloatOps F]

/-- The (batch, channel) row that row `r` of pass `p` of tile `L` is. -/
def rowNo (L : grid0.Coords) (p : Fin k0_t1_loop.trips) (r : Fin 2) : ℕ := 16 * (2 * (L 1).val + (L 0).val) + 2 * p.val + r.val

theorem off1_eq : ∀ (L : grid0.Coords) (p : Fin k0_t1_loop.trips), k0_off1 L p = ![rowNo L p 0 / 128, rowNo L p 0 % 128, 0] := by decide +kernel
theorem off2_eq : ∀ (L : grid0.Coords) (p : Fin k0_t1_loop.trips), k0_off2 L p = ![rowNo L p 1 / 128, rowNo L p 1 % 128, 0] := by decide +kernel
theorem offO_eq : ∀ (L : grid0.Coords) (p : Fin k0_t1_loop.trips) (c : Fin 7) (r : Fin 2),
    offO L p c (BitVec.ofNat 32 r.val) = ![rowNo L p r / 128, rowNo L p r % 128, 1792 * c.val] := by decide +kernel

theorem trips_t1 : k0_t1_loop.trips = 8 := by decide +kernel

/-- Dropping two leading axes of extent one. -/
theorem reshape_one_one (n : ℕ) (h : (⟨1, ![n]⟩ : Shape).numel = (⟨3, ![1, 1, n]⟩ : Shape).numel) (j : (⟨1, ![n]⟩ : Shape).Idx) :
    Shape.reshapeEquiv h j = Fin.cons ⟨0, Nat.one_pos⟩ (Fin.cons ⟨0, Nat.one_pos⟩ j : (⟨2, ![1, n]⟩ : Shape).Idx) := by
  have h1 : (⟨1, ![n]⟩ : Shape).numel = (⟨2, ![1, n]⟩ : Shape).numel := by simp [Shape.numel, Fin.prod_univ_succ]
  have h2 : (⟨2, ![1, n]⟩ : Shape).numel = (⟨3, ![1, 1, n]⟩ : Shape).numel := by simp [Shape.numel, Fin.prod_univ_succ]
  rw [← Shape.reshapeEquiv_reshapeEquiv h2 h1 j]
  exact (congrArg (Shape.reshapeEquiv h2) (Shape.reshapeEquiv_cons_one h1 j)).trans (Shape.reshapeEquiv_cons_one h2 _)

/-- Row `(b, ch)` of `x` at a vertex, and a word of the packed table at a column. -/
def xIx (b : Fin 4) (ch : Fin 128) (j : S50000.Idx) : S4x128x50000.Idx := fun a => match a with
  | 0 => b
  | 1 => ch
  | 2 => j 0
def pkIx (k : Fin 4) (col : Fin 12544) : S4x12544.Idx := fun a => match a with
  | 0 => k
  | 1 => col

/-- The padded result: at every batch, channel and column, the column's value over that row of `x`. -/
def outVal (x : S4x128x50000.Idx → F .f32) (pk : S4x12544.Idx → BitVec 32) (i : S4x128x12544.Idx) : F .f32 :=
  poolOf (fun j => x (xIx (i 0) (i 1) j)) fun k => pk (pkIx k (i 2))

theorem emb_oCh (off : Fin 3 → ℕ) (inb : ∀ a, off a + S1x1x1792.size a ≤ S4x128x12544.size a) (j : S1792.Idx) :
    ((oCh off inb).view.emb j 0 : ℕ) = off 0 ∧ ((oCh off inb).view.emb j 1 : ℕ) = off 1 ∧ ((oCh off inb).view.emb j 2 : ℕ) = off 2 + j 0 := by
  have h : (oCh off inb).view.emb j = (Rect.unit (s := S4x128x12544) off S1x1x1792.size inb).emb
      (Fin.cons ⟨0, Nat.one_pos⟩ (Fin.cons ⟨0, Nat.one_pos⟩ j : (⟨2, ![1, 1792]⟩ : Shape).Idx)) := by
    rw [← reshape_one_one 1792 (by decide) j]; rfl
  rw [h]
  refine ⟨?_, ?_, ?_⟩
  · show off 0 + 1 * 0 = _; omega
  · show off 1 + 1 * 0 = _; omega
  · show off 2 + 1 * (j 0 : ℕ) = _; omega

theorem emb_xRow (off : Fin 3 → ℕ) (inb : ∀ a, off a + S1x1x50000.size a ≤ S4x128x50000.size a) (j : S50000.Idx) :
    ((xRow off inb).view.emb j 0 : ℕ) = off 0 ∧ ((xRow off inb).view.emb j 1 : ℕ) = off 1 ∧ ((xRow off inb).view.emb j 2 : ℕ) = off 2 + j 0 := by
  have h : (xRow off inb).view.emb j = (Rect.unit (s := S4x128x50000) off S1x1x50000.size inb).emb
      (Fin.cons ⟨0, Nat.one_pos⟩ (Fin.cons ⟨0, Nat.one_pos⟩ j : (⟨2, ![1, 50000]⟩ : Shape).Idx)) := by
    rw [← reshape_one_one 50000 (by decide) j]; rfl
  rw [h]
  refine ⟨?_, ?_, ?_⟩
  · show off 0 + 1 * 0 = _; omega
  · show off 1 + 1 * 0 = _; omega
  · show off 2 + 1 * (j 0 : ℕ) = _; omega

variable (d : Dev nD) (x : Buf (Elt F) (xLoc d)) (pk : Buf (Elt F) (iLoc d))

/-- Where a row of `x` and a piece of the output at the same batch and channel meet. -/
theorem fits_one (offx offo : Fin 3 → ℕ) (inbx : ∀ a, offx a + S1x1x50000.size a ≤ S4x128x50000.size a)
    (inbo : ∀ a, offo a + S1x1x1792.size a ≤ S4x128x12544.size a) (c : Fin 7) (h0 : offx 0 = offo 0) (h1 : offx 1 = offo 1)
    (hx2 : offx 2 = 0) (ho2 : offo 2 = 1792 * c.val) :
    poolAt ((xRow offx inbx).view.read (Elt F) x) (words d pk (1792 * c.val) (col_inb c)) = (oCh offo inbo).view.read (Elt F) (outVal x pk) := by
  funext j
  obtain ⟨e0, e1, e2⟩ := emb_oCh offo inbo j
  have eo : (oCh offo inbo).view.read (Elt F) (outVal x pk) j = outVal x pk ((oCh offo inbo).view.emb j) :=
    (View.read_apply _ _).trans (cast_eq _ _)
  rw [eo]
  unfold poolAt outVal
  congr 1
  · funext v
    obtain ⟨x0, x1, x2⟩ := emb_xRow offx inbx v
    have ex : (xRow offx inbx).view.read (Elt F) x v = x ((xRow offx inbx).view.emb v) := (View.read_apply _ _).trans (cast_eq _ _)
    rw [ex]
    congr 1
    funext a
    refine Fin.ext ?_
    match a with
    | 0 => exact x0.trans (h0.trans e0.symm)
    | 1 => exact x1.trans (h1.trans e1.symm)
    | 2 => exact x2.trans (by rw [hx2, Nat.zero_add]; rfl)
  · funext k
    have ek : words d pk (1792 * c.val) (col_inb c) (wordIx k j) = pk ((iCh (1792 * c.val) (col_inb c)).view.emb (wordIx k j)) :=
      (View.read_apply _ _).trans (cast_eq _ _)
    rw [ek]
    congr 1
    funext a
    refine Fin.ext ?_
    match a with
    | 0 => show 0 + 1 * k.val = k.val; omega
    | 1 =>
      show 1792 * c.val + 1 * (j 0 : ℕ) = ((oCh offo inbo).view.emb j 2 : ℕ)
      rw [e2, ho2]; omega

theorem fits (L : grid0.Coords) (p : Fin k0_t1_loop.trips) (c : Fin 7) :
    Fits d (outVal x pk) (row0 d L x p) (row1 d L x p) (words d pk (1792 * c.val) (col_inb c)) (offO L p c) (offO_inb L p c) := by
  have e0 := offO_eq L p c 0
  have e1 := offO_eq L p c 1
  refine ⟨fits_one d x pk _ _ _ _ c ?_ ?_ ?_ ?_, fits_one d x pk _ _ _ _ c ?_ ?_ ?_ ?_⟩
  · rw [off1_eq]; exact (congrFun e0 0).symm
  · rw [off1_eq]; exact (congrFun e0 1).symm
  · rw [off1_eq]; rfl
  · exact congrFun e0 2
  · rw [off2_eq]; exact (congrFun e1 0).symm
  · rw [off2_eq]; exact (congrFun e1 1).symm
  · rw [off2_eq]; rfl
  · exact congrFun e1 2

/-- The packed table's halves are all row positions. -/
def Packed (pk : S4x12544.Idx → BitVec 32) : Prop := ∀ i, (lo (pk i)).toNat < 50000 ∧ (hi (pk i)).toNat < 50000

theorem words_of_packed (h : Packed pk) (c : Fin 7) : Words (words d pk (1792 * c.val) (col_inb c)) :=
  fun i => by
    have e : words d pk (1792 * c.val) (col_inb c) i = pk ((iCh (1792 * c.val) (col_inb c)).view.emb i) :=
      (View.read_apply _ _).trans (cast_eq _ _)
    rw [e]; exact h _

/-! ## Which elements a piece has -/

theorem mem_oCh (off : Fin 3 → ℕ) (inb : ∀ a, off a + S1x1x1792.size a ≤ S4x128x12544.size a) (i : S4x128x12544.Idx) :
    i ∈ (oCh off inb).view.set ↔ (i 0 : ℕ) = off 0 ∧ (i 1 : ℕ) = off 1 ∧ off 2 ≤ i 2 ∧ (i 2 : ℕ) < off 2 + 1792 := by
  constructor
  · intro h
    obtain ⟨j, -, rfl⟩ := Finset.mem_map.mp h
    obtain ⟨e0, e1, e2⟩ := emb_oCh off inb j
    have hj : (j 0 : ℕ) < 1792 := (j 0).isLt
    exact ⟨e0, e1, by rw [e2]; omega, by rw [e2]; omega⟩
  · rintro ⟨e0, e1, e2, e3⟩
    have hj : (i 2 : ℕ) - off 2 < 1792 := by omega
    let j : S1792.Idx := fun a => ⟨(i 2 : ℕ) - off 2, by obtain rfl : a = 0 := Subsingleton.elim _ _; exact hj⟩
    obtain ⟨f0, f1, f2⟩ := emb_oCh off inb j
    refine Finset.mem_map.mpr ⟨j, Finset.mem_univ _, ?_⟩
    funext a
    refine Fin.ext ?_
    match a with
    | 0 => exact f0.trans e0.symm
    | 1 => exact f1.trans e1.symm
    | 2 => exact f2.trans (by show off 2 + ((i 2 : ℕ) - off 2) = _; omega)

end Cert.Proof.Pool
-- ==== Proof.Tile.lean ====
/-
  The subcore's whole task: eight passes, from its scoped memory and semaphores and back.
-/
module

public import proofs.«01_k».proof.Proof.Places

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay ownBufs ownSems0 ownRefs ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (d : Dev nD) (L : grid0.Coords)

/-! ## The eight passes -/

section Passes

variable (O : CellTallies nD τ sig (HIx 1)) (W : Waits sig (HIx 1))
  (x : Buf (Elt F) (xLoc d)) (pk : Buf (Elt F) (iLoc d)) (out : Buf (Elt F) (oLoc d))

/-- A pass's pieces once `k` passes are done. -/
def mid (k : ℕ) (p : Fin k0_t1_loop.trips) : Pr F := if p.val < k then news d L out p else olds d L p

theorem mid_zero : mid d L out 0 = olds d L := by
  funext p; unfold mid; rw [if_neg (Nat.not_lt_zero _)]
theorem mid_trips : mid d L out k0_t1_loop.trips = news d L out := by
  funext p; unfold mid; rw [if_pos p.isLt]

theorem mid_take (p : Fin k0_t1_loop.trips) :
    bigSep Finset.univ (mid d L out p.val) = iprop(olds d L p ∗ bigSep (Finset.univ.erase p) (mid d L out p.val)) := by
  rw [bigSep_univ_split p]
  unfold mid
  rw [if_neg (Nat.lt_irrefl _)]; rfl

theorem mid_put (p : Fin k0_t1_loop.trips) :
    iprop(news d L out p ∗ bigSep (Finset.univ.erase p) (mid d L out p.val)) = bigSep Finset.univ (mid d L out (p.val + 1)) := by
  rw [bigSep_univ_split p (Φ := mid d L out (p.val + 1)), bigSep_congr (Φ := mid d L out p.val) (Ψ := mid d L out (p.val + 1))]
  · have : mid d L out (p.val + 1) p = news d L out p := by unfold mid; rw [if_pos (Nat.lt_succ_self _)]
    rw [this]; rfl
  · intro r hr
    have hne : r.val ≠ p.val := fun e => (Finset.mem_erase.mp hr).1 (Fin.ext e)
    unfold mid
    by_cases h : r.val < p.val
    · rw [if_pos h, if_pos (by omega)]
    · rw [if_neg h, if_neg (by omega)]

theorem passes_run (hp : Packed pk) :
    iprop(MayWaits (thr d L) none O ∗ keep d L O W x pk ∗ bigSep Finset.univ (olds d L))
      ⊢ runs d L (task L) fun _ => iprop(keep d L O W x pk ∗ bigSep Finset.univ (news d L (outVal x pk))) := by
  rw [task_eq]
  simp only [bind_pure_unit]
  refine BIBase.Entails.trans ?_ (Scf.wp_for frame (wpE (defs₀ (F := F)) 𝒱₀ (thr d L) none) Set.univ _ _ _ k0_t1_ok _ _
    (fun k _ => iprop(MayWaits (thr d L) none O ∗ keep d L O W x pk ∗ bigSep Finset.univ (mid d L (outVal x pk) k))) ?_)
  · rw [mid_zero]
    iintro ⟨#Hmw, Hk, Ho⟩
    isplitl
    · isplitr; · iexact Hmw
      isplitl [Hk]; · iexact Hk
      iexact Ho
    iintro %_ ⟨-, Hk, Hn⟩
    isplitl [Hk]; · iexact Hk
    ihave Hn' := (BIBase.Entails.of_eq (congrArg (bigSep Finset.univ) (mid_trips d L (outVal x pk)))) $$ Hn
    iexact Hn'
  · intro p _
    rw [mid_take]
    iintro ⟨#Hmw, Hk, Ho, Hr⟩
    iapply wp_wand_r
    isplitl [Hk Ho]
    · iapply (pass_run d L O W x pk (outVal x pk) p (words_of_packed d pk hp) (fits d x pk L p))
      isplitr; · iexact Hmw
      isplitl [Hk]; · iexact Hk
      iexact Ho
    iintro %_ ⟨Hk, Hn⟩
    isplitr; · iexact Hmw
    isplitl [Hk]; · iexact Hk
    iapply (BIBase.Entails.of_eq (mid_put d L (outVal x pk) p))
    isplitl [Hn]; · iexact Hn
    iexact Hr

end Passes

/-! ## The scoped memory and semaphores -/

/-- The subcore's own buffers and semaphores, in the order of the task's parameters. -/
def scBuf : Fin 7 → Ref sig .scVector :=
  ![cc0_scratch0, cc0_scratch1, cc0_scratch2, cc0_scratch3, cc0_scratch4, cc0_scratch5, cc0_scratch6]
def scSem : Fin 6 → SemLoc sig :=
  ![.dma cc0_scratch7.sem, .dma cc0_scratch8.sem, .dma cc0_scratch9.sem, .dma cc0_scratch10.sem, .dma cc0_scratch11.sem, .dma cc0_scratch12.sem]
theorem scBuf_inj : Function.Injective scBuf := by decide
theorem scSem_inj : Function.Injective scSem := by decide
theorem scSem_scoped : ∀ i, (scSem i).isScoped .scVector = true := by decide

def bufEmb : Fin 7 ↪ DevRef τ sig := ⟨fun i => (Proc.scVector (cV L) (jV L)).devRef (scBuf i), (Proc.devRef_injective _).comp scBuf_inj⟩
def semEmb : Fin 6 ↪ GSem nD τ sig := ⟨fun i => (thr d L, scSem i), fun i j h => scSem_inj (congrArg Prod.snd h)⟩

open Classical in
/-- What is left of the own buffers and semaphores. -/
def otherBufs : Pr F := bigSep (ownRefs (.scVector (cV L) (jV L)) \ Finset.univ.map (bufEmb L)) fun b => iprop(∃ f, ((d, b) : Loc nD τ sig) ↦{fullShare} f)
open Classical in
def otherSems : Pr F := bigSep (ownCells (thr d L) \ Finset.univ.map (semEmb d L)) fun g => semVal g 0

theorem ownBufs_eq :
    (ownBufs (thr d L) : Pr F) = iprop((bigSep Finset.univ fun i : Fin 7 => iprop(∃ f, ((thr d L).loc (scBuf i)) ↦{fullShare} f)) ∗ otherBufs d L) := by
  classical
  unfold ownBufs otherBufs
  refine (bigSep_sdiff_split (t := Finset.univ.map (bufEmb L)) ?_).trans ?_
  · intro b hb
    obtain ⟨i, -, rfl⟩ := Finset.mem_map.mp hb
    refine SparseCore.Cfg.mem_ownRefs_of_owner ?_
    clear hb
    fin_cases i <;> rfl
  · rw [bigSep_map]
    congr 2

theorem ownSems0_eq :
    (ownSems0 (thr d L) : Pr F) = iprop((bigSep Finset.univ fun i : Fin 6 => semVal ((thr d L, scSem i) : GSem nD τ sig) 0) ∗ otherSems d L) := by
  classical
  unfold ownSems0 otherSems
  refine (bigSep_sdiff_split (t := Finset.univ.map (semEmb d L)) ?_).trans ?_
  · intro g hg
    obtain ⟨i, -, rfl⟩ := Finset.mem_map.mp hg
    exact mem_ownCells.mpr ⟨rfl, scSem_scoped i⟩
  · rw [bigSep_map]
    congr 2

theorem bigSep_six (Φ : Fin 6 → Pr F) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem any_whole (b : Ref sig .scVector) :
    any d L (Memref.whole b) = (iprop(∃ f : Buf (Elt F) ((thr d L).loc b), (thr d L).loc b ↦{fullShare} f) : Pr F) := by
  unfold any
  simp only [Memref.view_whole, View.set_whole]

/-! ## The index buffer's two slots -/

abbrev slotAt (off : Fin 3 → ℕ) (inb : ∀ a, off a + S1x4x1792.size a ≤ S2x4x1792.size a) : Memref sig .scVector .vmem S4x1792 .i32 :=
  (sI.slice (Rect.unit (s := S2x4x1792) off S1x4x1792.size inb) (fun _ => rfl)).squeeze S4x1792 squeezes_S1x4x1792_S4x1792

theorem emb_slotAt (off : Fin 3 → ℕ) (inb : ∀ a, off a + S1x4x1792.size a ≤ S2x4x1792.size a) (j : S4x1792.Idx) :
    ((slotAt off inb).view.emb j 0 : ℕ) = off 0 ∧ ((slotAt off inb).view.emb j 1 : ℕ) = off 1 + j 0 ∧ ((slotAt off inb).view.emb j 2 : ℕ) = off 2 + j 1 := by
  have h : (slotAt off inb).view.emb j = (Rect.unit (s := S2x4x1792) off S1x4x1792.size inb).emb (Fin.cons ⟨0, Nat.one_pos⟩ j : S1x4x1792.Idx) := by
    rw [← Shape.reshapeEquiv_cons_one (by decide) j]; rfl
  rw [h]
  refine ⟨?_, ?_, ?_⟩
  · show off 0 + 1 * 0 = _; omega
  · show off 1 + 1 * (j 0 : ℕ) = _; omega
  · show off 2 + 1 * (j 1 : ℕ) = _; omega

theorem mem_slotAt (k : ℕ) (inb : ∀ a, (![k, 0, 0] : Fin 3 → ℕ) a + S1x4x1792.size a ≤ S2x4x1792.size a) (i : S2x4x1792.Idx) :
    i ∈ (slotAt ![k, 0, 0] inb).view.set ↔ (i 0 : ℕ) = k := by
  constructor
  · intro h
    obtain ⟨j, -, rfl⟩ := Finset.mem_map.mp h
    exact (emb_slotAt _ inb j).1
  · intro h
    let j : S4x1792.Idx := fun a => match a with
      | 0 => (i 1 : Fin 4)
      | 1 => (i 2 : Fin 1792)
    obtain ⟨f0, f1, f2⟩ := emb_slotAt _ inb j
    refine Finset.mem_map.mpr ⟨j, Finset.mem_univ _, ?_⟩
    funext a
    refine Fin.ext ?_
    match a with
    | 0 => exact f0.trans h.symm
    | 1 => exact f1.trans (Nat.zero_add _)
    | 2 => exact f2.trans (Nat.zero_add _)

theorem slots_disjoint : Disjoint slot0.view.set slot1.view.set :=
  Finset.disjoint_left.mpr fun i h0 h1 => by
    have e0 := (mem_slotAt 0 inb_S2x4x1792_S1x4x1792_0_0_0 i).mp h0
    have e1 := (mem_slotAt 1 inb_S2x4x1792_S1x4x1792_1_0_0 i).mp h1
    omega

theorem slots_univ : slot0.view.set ∪ slot1.view.set = Finset.univ := by
  refine Finset.eq_univ_iff_forall.mpr fun i => Finset.mem_union.mpr ?_
  have hi : (i 0 : ℕ) < 2 := (i 0).isLt
  rcases (by omega : (i 0 : ℕ) = 0 ∨ (i 0 : ℕ) = 1) with h | h
  · exact Or.inl ((mem_slotAt 0 inb_S2x4x1792_S1x4x1792_0_0_0 i).mpr h)
  · exact Or.inr ((mem_slotAt 1 inb_S2x4x1792_S1x4x1792_1_0_0 i).mpr h)

theorem slots_split : (iprop(∃ f : Buf (Elt F) ((thr d L).loc cc0_scratch2), (thr d L).loc cc0_scratch2 ↦{fullShare} f) : Pr F)
    ⊢ iprop(any d L slot0 ∗ any d L slot1) := by
  unfold any
  iintro ⟨%f, H⟩
  have e : ((thr d L).loc cc0_scratch2 ↦{fullShare} f : Pr F) ⊢ iprop(((thr d L).loc cc0_scratch2 ↦[slot0.view.set]{fullShare} f)
      ∗ ((thr d L).loc cc0_scratch2 ↦[slot1.view.set]{fullShare} f)) := by
    have := (pointsTo_union (ℓ := (thr d L).loc cc0_scratch2) (q := fullShare) (f := f) (Val := Elt F) (Ix := HIx 1) (Name := ℕ) (U := UU) (Lvl := ℕ) slots_disjoint).1
    rw [slots_univ] at this
    exact this
  ihave H := e $$ H
  icases H with ⟨H0, H1⟩
  isplitl [H0]
  · iexists f; iexact H0
  · iexists f; iexact H1

theorem slots_join : (iprop(any d L slot0 ∗ any d L slot1) : Pr F)
    ⊢ iprop(∃ f : Buf (Elt F) ((thr d L).loc cc0_scratch2), (thr d L).loc cc0_scratch2 ↦{fullShare} f) := by
  unfold any
  iintro ⟨⟨%f, H0⟩, ⟨%g, H1⟩⟩
  have e : iprop(((thr d L).loc cc0_scratch2 ↦[slot0.view.set]{fullShare} f) ∗ ((thr d L).loc cc0_scratch2 ↦[slot1.view.set]{fullShare} g))
      ⊢ ((thr d L).loc cc0_scratch2 ↦{fullShare} (slot1.view.set.piecewise g f) : Pr F) := by
    have := pointsTo_join (ℓ := (thr d L).loc cc0_scratch2) (q := fullShare) (f := f) (g := g) (Val := Elt F) (Ix := HIx 1) (Name := ℕ) (U := UU) (Lvl := ℕ) slots_disjoint
    rw [slots_univ] at this
    exact this
  iexists _
  iapply e
  isplitl [H0]; · iexact H0
  iexact H1

/-! ## The task -/

theorem rest_of_scoped :
    iprop((bigSep Finset.univ fun i : Fin 7 => iprop(∃ f : Buf (Elt F) ((thr d L).loc (scBuf i)), ((thr d L).loc (scBuf i)) ↦{fullShare} f))
      ∗ bigSep Finset.univ fun i : Fin 6 => semVal ((thr d L, scSem i) : GSem nD τ sig) 0) ⊢ rest (F := F) d L := by
  rw [bigSep_seven, bigSep_six]
  unfold rest idle quiet
  simp only [any_whole, free]
  iintro ⟨⟨H0, H1, H2, H3, H4, H5, H6⟩, S7, S8, S9, S10, S11, S12⟩
  ihave H2' := (show (iprop(∃ f : Buf (Elt F) ((thr d L).loc (scBuf 2)), (thr d L).loc (scBuf 2) ↦{fullShare} f) : Pr F) ⊢ _ from slots_split d L) $$ H2
  icases H2' with ⟨I0, I1⟩
  isplitl [H0 H1]
  · isplitl [H0]; · iexact H0
    iexact H1
  isplitl [I0 I1 S9 S10]
  · isplitl [I0 S9]
    · isplitl [I0]; · iexact I0
      iexact S9
    · isplitl [I1]; · iexact I1
      iexact S10
  isplitl [H3 H4 H5 H6 S11 S12]
  · isplitl [H3 H4 S11]
    · isplitl [H3]; · iexact H3
      isplitl [H4]; · iexact H4
      iexact S11
    · isplitl [H5]; · iexact H5
      isplitl [H6]; · iexact H6
      iexact S12
  isplitl [S7]; · iexact S7
  iexact S8

theorem scoped_of_rest :
    rest (F := F) d L ⊢ iprop((bigSep Finset.univ fun i : Fin 7 => iprop(∃ f : Buf (Elt F) ((thr d L).loc (scBuf i)), ((thr d L).loc (scBuf i)) ↦{fullShare} f))
      ∗ bigSep Finset.univ fun i : Fin 6 => semVal ((thr d L, scSem i) : GSem nD τ sig) 0) := by
  rw [bigSep_seven, bigSep_six]
  unfold rest idle quiet
  simp only [any_whole, free]
  iintro ⟨⟨H0, H1⟩, ⟨⟨I0, S9⟩, ⟨I1, S10⟩⟩, ⟨⟨H3, H4, S11⟩, ⟨H5, H6, S12⟩⟩, S7, S8⟩
  isplitl [H0 H1 I0 I1 H3 H4 H5 H6]
  · isplitl [H0]; · iexact H0
    isplitl [H1]; · iexact H1
    isplitl [I0 I1]
    · iapply (slots_join d L)
      isplitl [I0]; · iexact I0
      iexact I1
    isplitl [H3]; · iexact H3
    isplitl [H4]; · iexact H4
    isplitl [H5]; · iexact H5
    iexact H6
  isplitl [S7]; · iexact S7
  isplitl [S8]; · iexact S8
  isplitl [S9]; · iexact S9
  isplitl [S10]; · iexact S10
  isplitl [S11]; · iexact S11
  iexact S12

/-- The task: from shares of `x` and the packed table and the subcore's pieces of the output to those pieces at what they
    must end at. -/
theorem tile_body (x : Buf (Elt F) (xLoc d)) (pk : Buf (Elt F) (iLoc d)) (hp : Packed pk)
    (O : CellTallies nD τ sig (HIx 1)) (W : Waits sig (HIx 1)) (hO : ∀ g, O g none = 0) :
    iprop(levAts (K (F := F)).L (K (F := F)).lev ∗ (shr (xLoc d) x ∗ shr (iLoc d) pk ∗ bigSep Finset.univ (olds d L))
        ∗ scopedBufs (thr d L) ∗ scopedSems0 (thr d L) ∗ owes (thr d L) O W)
      ⊢ runs d L (task L) fun _ => iprop(bigSep Finset.univ (news d L (outVal x pk)) ∗ scopedBufs (thr d L) ∗ scopedSems0 (thr d L)
          ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownBufs_eq, ownSems0_eq]
  iintro ⟨#Hlv, ⟨Hx, Hi, Ho⟩, ⟨Hb, Hb'⟩, ⟨Hs, Hs'⟩, HO⟩
  ihave #Hmw := ((K (F := F)).mayWaits_none (thr := thr d L) (O := O) hO) $$ Hlv
  iapply wp_wand_r
  isplitl [Hx Hi Ho Hb Hs HO]
  · iapply (passes_run d L O W x pk hp)
    isplitr; · iexact Hmw
    isplitr [Ho]
    · unfold keep
      isplitl [Hx Hi]
      · isplitl [Hx]; · iexact Hx
        iexact Hi
      isplitl [Hb Hs]
      · iapply (rest_of_scoped d L)
        isplitl [Hb]; · iexact Hb
        iexact Hs
      unfold ows
      iexists W
      isplitr
      · ipureintro; exact fun p hp => Or.inl hp
      iexact HO
    iexact Ho
  iintro %_ ⟨Hk, Hn⟩
  unfold keep
  icases Hk with ⟨-, Hr, HO⟩
  ihave Hr := (scoped_of_rest d L) $$ Hr
  icases Hr with ⟨Hb, Hs⟩
  isplitl [Hn]; · iexact Hn
  isplitl [Hb Hb']
  · isplitl [Hb]; · iexact Hb
    iexact Hb'
  isplitl [Hs Hs']
  · isplitl [Hs]; · iexact Hs
    iexact Hs'
  unfold ows
  iexact HO

end Cert.Proof.Pool
-- ==== Proof.Pieces.lean ====
/-
  The padded result as its pieces: 2 SparseCores × 16 subcores × 8 passes × 7 chunks × 2 rows are all of it, once each.
-/
module

public import proofs.«01_k».proof.Proof.Tile

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (d : Dev nD)

/-- The grid point of SparseCore `c` and subcore `s`. -/
def coordsV (c : Fin 2) (s : Fin 16) : grid0.Coords :=
  fun | 0 => c | 1 => s | ⟨_ + 2, h⟩ => absurd h (Nat.not_lt.2 (Nat.le_add_left _ _))

/-- Names of the pieces: SparseCore, subcore, pass, chunk, row. -/
abbrev Piece : Type := Fin 2 × Fin 16 × Fin k0_t1_loop.trips × Fin 7 × Fin 2

def pieceSet (t : Piece) : Finset S4x128x12544.Idx :=
  (oCh (offO (coordsV t.1 t.2.1) t.2.2.1 t.2.2.2.1 (BitVec.ofNat 32 t.2.2.2.2.val))
    (offO_inb (coordsV t.1 t.2.1) t.2.2.1 t.2.2.2.1 t.2.2.2.2)).view.set

theorem mem_pieceSet (t : Piece) (i : S4x128x12544.Idx) :
    i ∈ pieceSet t ↔ (i 0 : ℕ) = (16 * (2 * t.2.1.val + t.1.val) + 2 * t.2.2.1.val + t.2.2.2.2.val) / 128
      ∧ (i 1 : ℕ) = (16 * (2 * t.2.1.val + t.1.val) + 2 * t.2.2.1.val + t.2.2.2.2.val) % 128
      ∧ 1792 * t.2.2.2.1.val ≤ i 2 ∧ (i 2 : ℕ) < 1792 * t.2.2.2.1.val + 1792 := by
  unfold pieceSet
  rw [mem_oCh, offO_eq]
  exact Iff.rfl

theorem pieces_disjoint : ∀ t ∈ (Finset.univ : Finset Piece), ∀ t' ∈ (Finset.univ : Finset Piece), t ≠ t' → Disjoint (pieceSet t) (pieceSet t') := by
  rintro ⟨c, s, p, ch, r⟩ - ⟨c', s', p', ch', r'⟩ - hne
  refine Finset.disjoint_left.mpr fun i h h' => hne ?_
  obtain ⟨a0, a1, a2, a3⟩ := (mem_pieceSet _ i).mp h
  obtain ⟨b0, b1, b2, b3⟩ := (mem_pieceSet _ i).mp h'
  have hp : p.val < 8 := trips_t1 ▸ p.isLt
  have hp' : p'.val < 8 := trips_t1 ▸ p'.isLt
  have hc := c.isLt; have hc' := c'.isLt; have hr := r.isLt; have hr' := r'.isLt
  dsimp only at a0 a1 a2 a3 b0 b1 b2 b3
  have ec : c = c' := Fin.ext (by omega)
  have es : s = s' := Fin.ext (by omega)
  have ep : p = p' := Fin.ext (by omega)
  have er : r = r' := Fin.ext (by omega)
  have eh : ch = ch' := Fin.ext (by omega)
  rw [ec, es, ep, er, eh]

theorem piece_of {a b c : ℕ} (ha : a < 4) (hb : b < 128) (hc : c < 12544) : ∃ k s p ch r : ℕ, k < 2 ∧ s < 16 ∧ p < 8 ∧ ch < 7 ∧ r < 2
    ∧ a = (16 * (2 * s + k) + 2 * p + r) / 128 ∧ b = (16 * (2 * s + k) + 2 * p + r) % 128 ∧ 1792 * ch ≤ c ∧ c < 1792 * ch + 1792 :=
  ⟨(128 * a + b) / 16 % 2, (128 * a + b) / 32, (128 * a + b) % 16 / 2, c / 1792, (128 * a + b) % 2, by omega, by omega, by omega, by omega,
    by omega, by omega, by omega, by omega, by omega⟩

theorem exists_piece (i : S4x128x12544.Idx) : ∃ t, i ∈ pieceSet t := by
  obtain ⟨c, s, p, ch, r, hc, hs, hp, hch, hr, e⟩ :=
    piece_of (show (i 0 : ℕ) < 4 from (i 0).isLt) (show (i 1 : ℕ) < 128 from (i 1).isLt) (show (i 2 : ℕ) < 12544 from (i 2).isLt)
  let t : Piece := ⟨⟨c, hc⟩, ⟨s, hs⟩, ⟨p, hp.trans_eq trips_t1.symm⟩, ⟨ch, hch⟩, ⟨r, hr⟩⟩
  exact ⟨t, (mem_pieceSet t i).mpr e⟩

theorem pieces_cover : (Finset.univ : Finset Piece).biUnion pieceSet = Finset.univ := by
  ext i
  obtain ⟨t, ht⟩ := exists_piece i
  rw [Finset.mem_biUnion]
  exact ⟨fun _ => Finset.mem_univ i, fun _ => ⟨t, Finset.mem_univ t, ht⟩⟩

theorem news_eq (L : grid0.Coords) (f : Buf (Elt F) (oLoc d)) (p : Fin k0_t1_loop.trips) :
    news d L f p = bigSep Finset.univ fun c : Fin 7 => bigSep Finset.univ fun r : Fin 2 =>
      (oLoc d ↦[(oCh (offO L p c (BitVec.ofNat 32 r.val)) (offO_inb L p c r)).view.set]{fullShare} f : Pr F) := by
  unfold news
  refine bigSep_congr fun c _ => ?_
  rw [bigSep_fin_two]; rfl

/-- The padded result whole is all its pieces. -/
theorem whole_pieces (f : Buf (Elt F) (oLoc d)) :
    (oLoc d ↦{fullShare} f : Pr F)
      = bigSep Finset.univ fun c : Fin 2 => bigSep Finset.univ fun s : Fin 16 => bigSep Finset.univ (news d (coordsV c s) f) := by
  have h := pointsTo_biUnion (ℓ := oLoc d) (q := fullShare) (f := f) (Val := Elt F) (Ix := HIx 1) (Name := ℕ) (U := UU) (Lvl := ℕ)
    Finset.univ pieceSet pieces_disjoint
  rw [pieces_cover] at h
  refine h.trans ?_
  rw [bigSep_univ_prod]
  refine bigSep_congr fun c _ => ?_
  rw [bigSep_univ_prod]
  refine bigSep_congr fun s _ => ?_
  rw [bigSep_univ_prod]
  refine bigSep_congr fun p _ => ?_
  rw [bigSep_univ_prod, news_eq]
  refine bigSep_congr fun ch _ => ?_
  exact bigSep_congr fun r _ => rfl

theorem newAt_oldAt (L : grid0.Coords) (f : Buf (Elt F) (oLoc d)) (off : BitVec 32 → Fin 3 → ℕ) (oinb : OffIn off) :
    newAt d L f off oinb ⊢ oldAt d L off oinb := by
  unfold newAt oldAt final any
  iintro ⟨Ha, Hb⟩
  isplitl [Ha]
  · iexists f; iexact Ha
  · iexists f; iexact Hb

theorem news_olds (L : grid0.Coords) (f : Buf (Elt F) (oLoc d)) (p : Fin k0_t1_loop.trips) : news d L f p ⊢ olds d L p :=
  bigSep_mono fun c _ => newAt_oldAt d L f _ _

/-- Shares of a table for every member of a finite set, and one kept. -/
theorem shr_deal {I : Type} [DecidableEq I] (ℓ : Loc nD τ sig) (f : Buf (Elt F) ℓ) (s : Finset I) :
    shr ℓ f ⊢ iprop(shr ℓ f ∗ bigSep s fun _ => shr ℓ f) := by
  induction s using Finset.induction_on with
  | empty =>
    iintro H
    isplitl [H]; · iexact H
    rw [bigSep_empty]
    iempintro
  | insert a s ha ih =>
    have h2 : shr ℓ f ⊢ iprop(shr ℓ f ∗ shr ℓ f) := by
      unfold shr
      iintro ⟨%q, H⟩
      ihave H := (pointsTo_share (PosShare.mem_left_op_right q)).1 $$ H
      icases H with ⟨H1, H2⟩
      isplitl [H1]
      · iexists _; iexact H1
      · iexists _; iexact H2
    refine BIBase.Entails.trans ih ?_
    iintro ⟨Hs, Hr⟩
    ihave H := h2 $$ Hs
    icases H with ⟨H1, H2⟩
    isplitl [H1]; · iexact H1
    iapply (show iprop(shr ℓ f ∗ bigSep s fun _ => shr ℓ f) ⊢ bigSep (insert a s) fun _ => shr ℓ f from BIBase.Entails.of_eq (bigSep_insert ha (Φ := fun _ => shr ℓ f)).symm)
    isplitl [H2]; · iexact H2
    iexact Hr

end Cert.Proof.Pool
-- ==== Proof.Host.lean ====
/-
  The host's lines around the kernel: the index table padded and packed two rows to a word before, the padded result cut
  to size after.
-/
module

public import proofs.«01_k».proof.Proof.Pieces

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split wp_hlo_within seq after)

variable {F : FTy → Type} [FloatOps F]

/-- The index table padded with zeros. -/
def padded (a : S8x12500.Idx → BitVec 32) : S8x12544.Idx → BitVec 32 :=
  pad S8x12544 ![0, 0] ![0, 44] ![0, 0] a (constantI S_ 32 0#32) pads_S8x12500_S8x12544_000_0440 h_S_

/-- The packed table of the index table `a`: its even rows, and its odd rows sixteen bits up. -/
def packed (a : S8x12500.Idx → BitVec 32) : S4x12544.Idx → BitVec 32 :=
  ori (Host.slice S4x12544 ![0, 0] ![2, 1] (padded a) slicesBy_S8x12544_S4x12544_0s2_0s1)
    (Host.shli (Host.slice S4x12544 ![1, 0] ![2, 1] (padded a) slicesBy_S8x12544_S4x12544_1s2_0s1)
      (broadcastInDim S4x12544 ![] bcast_S_S4x12544 (constantI S_ 32 16#32)))

/-- The lines before the call. -/
def linesBefore : List (HloOp τ sig (Elt F)) :=
  [StableHlo.nullary main_c (constantI S_ 32 0#32),
   StableHlo.TRef.unary (.of main_c : StableHlo.TRef sig ⟨S_, .i32⟩) main_call0.v0 id,
   StableHlo.TRef.binary (.of main_arg1 : StableHlo.TRef sig ⟨S8x12500, .i32⟩) main_call0.v0 main_call0.v1
     (fun x v => pad S8x12544 ![0, 0] ![0, 44] ![0, 0] x v pads_S8x12500_S8x12544_000_0440 h_S_),
   StableHlo.unary main_v0 main_v1 ((Host.slice S4x12544 ![0, 0] ![2, 1] · slicesBy_S8x12544_S4x12544_0s2_0s1) :
     (⟨S8x12544, .i32⟩ : BufTy).Contents (Elt F) → (⟨S4x12544, .i32⟩ : BufTy).Contents (Elt F)),
   StableHlo.unary main_v0 main_v2 ((Host.slice S4x12544 ![1, 0] ![2, 1] · slicesBy_S8x12544_S4x12544_1s2_0s1) :
     (⟨S8x12544, .i32⟩ : BufTy).Contents (Elt F) → (⟨S4x12544, .i32⟩ : BufTy).Contents (Elt F)),
   StableHlo.nullary main_c_0 (constantI S_ 32 16#32),
   StableHlo.unary main_c_0 main_v3 (broadcastInDim S4x12544 ![] bcast_S_S4x12544 :
     (⟨S_, .i32⟩ : BufTy).Contents (Elt F) → (⟨S4x12544, .i32⟩ : BufTy).Contents (Elt F)),
   StableHlo.binary main_v2 main_v3 main_v4 (Host.shli :
     (⟨S4x12544, .i32⟩ : BufTy).Contents (Elt F) → (⟨S4x12544, .i32⟩ : BufTy).Contents (Elt F) → (⟨S4x12544, .i32⟩ : BufTy).Contents (Elt F)),
   StableHlo.binary main_v1 main_v4 main_v5 (ori :
     (⟨S4x12544, .i32⟩ : BufTy).Contents (Elt F) → (⟨S4x12544, .i32⟩ : BufTy).Contents (Elt F) → (⟨S4x12544, .i32⟩ : BufTy).Contents (Elt F))]

/-- The line after the call. -/
abbrev lineAfter : HloOp τ sig (Elt F) :=
  StableHlo.unary main_v6 main_v7 ((extractStridedSlice S4x128x12500 ![0, 0, 0] · slices_S4x128x12544_S4x128x12500_0_0_0) :
    (⟨S4x128x12544, .f32⟩ : BufTy).Contents (Elt F) → (⟨S4x128x12500, .f32⟩ : BufTy).Contents (Elt F))

/-- The host's program as those lines. -/
theorem main_eq (d : Dev nD) :
    main (F := F) d
      = seq linesBefore >>= fun _ => (do sc.run d 0; hlo rfl lineAfter (fun _ => .ret (⟨⟩ : PUnit))) := rfl

/-- A buffer of the TensorCore by its name. -/
abbrev rf (r : Ref sig .tc) : DevRef τ sig := Proc.devRef .tc r

/-- The valuation after the lines before the call: the packed table is there, the arguments are as they were. -/
theorem after_v5 (W : Valuation τ sig (Elt F)) : after linesBefore W (rf main_v5) = packed (W (rf main_arg1)) := by
  unfold linesBefore
  after_results
  rfl
theorem after_arg0 (W : Valuation τ sig (Elt F)) : after linesBefore W (rf main_arg0) = W (rf main_arg0) := by
  unfold linesBefore
  after_results
theorem after_arg1 (W : Valuation τ sig (Elt F)) : after linesBefore W (rf main_arg1) = W (rf main_arg1) := by
  unfold linesBefore
  after_results

end Cert.Proof.Pool
-- ==== Proof.Call.lean ====
/-
  The call: what each subcore is handed and yields back, the obligations of the launch theorem for its tasks, and what the
  host hands the call and takes back from it.
-/
module

public import proofs.«01_k».proof.Proof.Tile
public import proofs.«01_k».proof.Proof.Host

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (m : (ℓ : Loc nD τ sig) → Buf (Elt F) ℓ)

/-! ## Payloads -/

/-- The index table of device `d` as a location; the packed table, and the padded result's values, of a launch memory. -/
abbrev aLoc (d : Dev nD) : Loc nD τ sig := (SparseCore.T d).loc main_arg1
def pkOf (d : Dev nD) : Buf (Elt F) (iLoc d) := packed (m (aLoc d))
def outOf (d : Dev nD) : Buf (Elt F) (oLoc d) := outVal (m (xLoc d)) (pkOf m d)

/-- What a subcore takes, and what it yields back. -/
def takes (d : Dev nD) (L : grid0.Coords) : Pr F :=
  iprop(shr (xLoc d) (m (xLoc d)) ∗ shr (iLoc d) (pkOf m d) ∗ bigSep Finset.univ (olds d L))
def yields (d : Dev nD) (L : grid0.Coords) : Pr F := bigSep Finset.univ (news d L (outOf m d))

section Keepable

variable (d : Dev nD) (L : grid0.Coords) {s : Shape} {e : EltTy} (r : Memref sig .scVector .hbm s e)

instance shr_storable (ℓ : Loc nD τ sig) (f : Buf (Elt F) ℓ) : BI.Storable (upEmb : UEmb _ (MT nD τ sig (HIx 1) (Elt F) ℕ UU ℕ)) (shr ℓ f) := by
  unfold shr; infer_instance
instance any_storable : BI.Storable (upEmb : UEmb _ (MT nD τ sig (HIx 1) (Elt F) ℕ UU ℕ)) (any (F := F) d L r) := by
  unfold any; infer_instance
instance final_storable (f : Buf (Elt F) (r.view.loc (thr d L))) : BI.Storable (upEmb : UEmb _ (MT nD τ sig (HIx 1) (Elt F) ℕ UU ℕ)) (final d L r f) := by
  unfold final; infer_instance
instance oldAt_storable (off : BitVec 32 → Fin 3 → ℕ) (oinb : OffIn off) : BI.Storable (upEmb : UEmb _ (MT nD τ sig (HIx 1) (Elt F) ℕ UU ℕ)) (oldAt (F := F) d L off oinb) := by
  unfold oldAt; infer_instance
instance newAt_storable (f : Buf (Elt F) (oLoc d)) (off : BitVec 32 → Fin 3 → ℕ) (oinb : OffIn off) : BI.Storable (upEmb : UEmb _ (MT nD τ sig (HIx 1) (Elt F) ℕ UU ℕ)) (newAt d L f off oinb) := by
  unfold newAt; infer_instance
instance olds_storable (p : Fin k0_t1_loop.trips) : BI.Storable (upEmb : UEmb _ (MT nD τ sig (HIx 1) (Elt F) ℕ UU ℕ)) (olds (F := F) d L p) := by
  unfold olds; infer_instance
instance news_storable (f : Buf (Elt F) (oLoc d)) (p : Fin k0_t1_loop.trips) : BI.Storable (upEmb : UEmb _ (MT nD τ sig (HIx 1) (Elt F) ℕ UU ℕ)) (news d L f p) := by
  unfold news; infer_instance

end Keepable

instance takes_storable (d : Dev nD) (L : grid0.Coords) :
    BI.Storable (upEmb : UEmb _ (MT nD τ sig (HIx 1) (Elt F) ℕ UU ℕ)) (takes m d L) := by
  unfold takes; infer_instance
instance yields_storable (d : Dev nD) (L : grid0.Coords) :
    BI.Storable (upEmb : UEmb _ (MT nD τ sig (HIx 1) (Elt F) ℕ UU ℕ)) (yields m d L) := by
  unfold yields; infer_instance

theorem nCore_eq (q : Fin 1) : (K (F := F)).nCore q = 2 := match q with | 0 => rfl
theorem nSub_eq (q : Fin 1) : (K (F := F)).nSub q = 16 := match q with | 0 => rfl

/-- The grid point of the call's core and subcore. -/
def at' (q : Fin 1) (c : Fin ((K (F := F)).nCore q)) (i : Fin ((K (F := F)).nSub q)) : grid0.Coords :=
  coordsV (Fin.cast (nCore_eq q) c) (Fin.cast (nSub_eq q) i)

theorem bigSep_cast {n k : ℕ} (h : n = k) (Φ : Fin k → Pr F) :
    (bigSep Finset.univ fun i : Fin n => Φ (Fin.cast h i)) = bigSep Finset.univ Φ := by
  subst h; rfl

/-- The call's payloads. -/
def P : (K (F := F)).Pay (nD := nD) (Val := Elt F) (Name := ℕ) (U := UU) where
  st := fun q d c => bigSep Finset.univ fun i => takes m d (at' q c i)
  dn := fun q d c => bigSep Finset.univ fun i => yields m d (at' q c i)
  go := fun q d c i => takes m d (at' q c i)
  td := fun q d c i => yields m d (at' q c i)
  x := fun _ _ => iprop(emp)

instance P_storable : (P m).IsStorable where
  st q d c := show BI.Storable (upEmb : UEmb _ (MT nD τ sig (HIx 1) (Elt F) ℕ UU ℕ))
    (bigSep Finset.univ fun i => takes m d (at' q c i)) from inferInstance
  dn q d c := show BI.Storable (upEmb : UEmb _ (MT nD τ sig (HIx 1) (Elt F) ℕ UU ℕ))
    (bigSep Finset.univ fun i => yields m d (at' q c i)) from inferInstance
  go _ d c i := takes_storable m d _
  td _ d c i := yields_storable m d _

/-! ## The obligations -/

theorem defs₀_vector (c : Fin τ.nSC) (s : Fin τ.nSub) :
    defs₀ (F := F) (.scVector c s) 0 () = SparseCore.onTile hcore0 hsub0 (fun c s => task (coordsV c s)) ⟨⟩ c s := rfl

omit [FloatOps F] in
theorem obl_post {thr : Thread nD τ} {A B C : Pr F} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem drop_emp {A B : Pr F} : iprop(A ∗ emp ∗ B) ⊢ iprop(A ∗ B) := by
  iintro ⟨HA, -, HB⟩
  isplitl [HA]; · iexact HA
  iexact HB

omit [FloatOps F] in
theorem same_back {A B : Pr F} : A ⊢ |={Set.univ}=> iprop(A ∗ (B -∗ B)) := by
  iintro H; imodintro
  isplitl [H]; · iexact H
  iintro H; iexact H

theorem tileObl (hp : ∀ d, Packed (pkOf m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, _root_.and_self, ↓reduceDIte]
  have h := (tile_body d (coordsV ⟨_, hc.1⟩ ⟨_, hc.2⟩) (m (xLoc d)) (pkOf m d) (hp d) O W hO).trans
    (wp_mono frame _ _ fun _ => obl_post (q := 0))
  refine BI.Entails.trans ?_ h
  exact drop_emp

theorem vecSplit : (K (F := F)).VecSplit' (P m) 0 := by
  intro d c
  exact same_back

/-! ## Handing over and taking back -/

theorem takes_eq (d : Dev nD) :
    (bigSep Finset.univ fun c : Fin 2 => bigSep Finset.univ fun s : Fin 16 => takes m d (coordsV c s))
      = iprop((bigSep Finset.univ fun _ : Fin 2 × Fin 16 => shr (xLoc d) (m (xLoc d)))
          ∗ (bigSep Finset.univ fun _ : Fin 2 × Fin 16 => shr (iLoc d) (pkOf m d))
          ∗ bigSep Finset.univ fun t : Fin 2 × Fin 16 => bigSep Finset.univ (olds (F := F) d (coordsV t.1 t.2))) := by
  rw [← bigSep_sep', ← bigSep_sep', bigSep_univ_prod]
  rfl

/-- The padded result whole, whatever is in it, is every subcore's pieces of it. -/
theorem deal_out (d : Dev nD) (f : Buf (Elt F) (oLoc d)) :
    (oLoc d ↦{fullShare} f : Pr F) ⊢ bigSep Finset.univ fun t : Fin 2 × Fin 16 => bigSep Finset.univ (olds (F := F) d (coordsV t.1 t.2)) := by
  rw [whole_pieces, bigSep_univ_prod]
  exact bigSep_mono fun c _ => bigSep_mono fun s _ => bigSep_mono fun p _ => news_olds d (coordsV c s) f p

theorem st_eq (d : Dev nD) : (bigSep Finset.univ fun c : Fin ((K (F := F)).nCore 0) => (P m).st 0 d c)
    = bigSep Finset.univ fun c : Fin 2 => bigSep Finset.univ fun s : Fin 16 => takes m d (coordsV c s) :=
  (bigSep_congr fun c _ => bigSep_cast (nSub_eq 0) fun s => takes m d (coordsV (Fin.cast (nCore_eq 0) c) s)).trans
    (bigSep_cast (nCore_eq 0) fun c => bigSep Finset.univ fun s : Fin 16 => takes m d (coordsV c s))
theorem dn_eq (d : Dev nD) : (bigSep Finset.univ fun c : Fin ((K (F := F)).nCore 0) => (P m).dn 0 d c)
    = bigSep Finset.univ fun c : Fin 2 => bigSep Finset.univ fun s : Fin 16 => yields m d (coordsV c s) :=
  (bigSep_congr fun c _ => bigSep_cast (nSub_eq 0) fun s => yields m d (coordsV (Fin.cast (nCore_eq 0) c) s)).trans
    (bigSep_cast (nCore_eq 0) fun c => bigSep Finset.univ fun s : Fin 16 => yields m d (coordsV c s))

/-- What the host hands the call, a share of `x` kept. -/
theorem deal (d : Dev nD) (f : Buf (Elt F) (oLoc d)) :
    iprop(shr (xLoc d) (m (xLoc d)) ∗ shr (iLoc d) (pkOf m d) ∗ (oLoc d ↦{fullShare} f))
      ⊢ iprop(shr (xLoc d) (m (xLoc d)) ∗ bigSep Finset.univ fun c : Fin ((K (F := F)).nCore 0) => (P m).st 0 d c) := by
  rw [st_eq, takes_eq]
  iintro ⟨Hx, Hi, Ho⟩
  ihave Hx' := (shr_deal (xLoc d) (m (xLoc d)) (Finset.univ : Finset (Fin 2 × Fin 16))) $$ Hx
  icases Hx' with ⟨Hx, Hxs⟩
  ihave Hi' := (shr_deal (iLoc d) (pkOf m d) (Finset.univ : Finset (Fin 2 × Fin 16))) $$ Hi
  icases Hi' with ⟨-, His⟩
  ihave Hos := (deal_out d f) $$ Ho
  isplitl [Hx]; · iexact Hx
  isplitl [Hxs]; · iexact Hxs
  isplitl [His]; · iexact His
  iexact Hos

/-- What the host takes back: the padded result whole, at its values. -/
theorem gather (d : Dev nD) :
    (bigSep Finset.univ fun c : Fin ((K (F := F)).nCore 0) => (P m).dn 0 d c) = (oLoc d ↦{fullShare} outOf m d : Pr F) :=
  (dn_eq m d).trans (whole_pieces d (outOf m d)).symm

end Cert.Proof.Pool
-- ==== Proof.Launch.lean ====
/-
  The launch: the host's lines before the call, the call, the line after it; the program's run from any memory whose packed
  table names rows of `x`.
-/
module

public import Idealize.ShloMosaic.Lib.Pipeline.Frame
public import proofs.«01_k».proof.Proof.Call

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_sub_split wp_hlo_within wp_seq seq after)
open Idealize.ShloMosaic.Pipeline (ucRefs unscopedBufs_held)

variable {F : FTy → Type} [FloatOps F] (m : (ℓ : Loc nD τ sig) → Buf (Elt F) ℓ) (ρ : Dev nD → PrngReg)

/-! ## The launch's ghost state -/

def u₀ : UU := (initOf (K (F := F)).hsCells (K (F := F)).hsToks, 1)

theorem hu₀ : (ownU (u₀ (F := F)) : Pr F)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have h0 : (bigSep Finset.univ fun thr : Thread nD τ => bigSep Finset.univ fun q : Fin 1 => (P m).x q thr) = (iprop(emp) : Pr F) :=
    (bigSep_congr fun _ _ => bigSep_emp_const _).trans (bigSep_emp_const _)
  rw [h0, show (bigSep Finset.univ fun _ : Dev nD => iprop(emp)) = (iprop(emp) : Pr F) from bigSep_emp_const _]
  unfold u₀
  iintro Hu
  ihave H := (ownU_pair _ _) $$ Hu
  icases H with ⟨HH, -⟩
  imodintro
  isplitl [HH]; · iexact HH
  isplitr <;> iempintro

/-! ## The host's buffers -/

theorem mem_uc (r : Ref sig .tc) (h : r.isScoped = false) : rf r ∈ ucRefs τ sig :=
  Finset.mem_filter.mpr ⟨StableHlo.devRef_mem_tcRefs r, by
    rw [show (rf r).isScoped = r.isScoped from rfl, h]; exact Bool.false_ne_true⟩

theorem one_uc (x : Ref sig .tc) (hx : x.isScoped = false) : ({rf x} : Finset (DevRef τ sig)) ⊆ ucRefs τ sig :=
  Finset.singleton_subset_iff.mpr (mem_uc x hx)
theorem two_uc (x y : Ref sig .tc) (hx : x.isScoped = false) (hy : y.isScoped = false) :
    ({rf x, rf y} : Finset (DevRef τ sig)) ⊆ ucRefs τ sig := Finset.insert_subset (mem_uc x hx) (one_uc y hy)
theorem three_uc (x y z : Ref sig .tc) (hx : x.isScoped = false) (hy : y.isScoped = false) (hz : z.isScoped = false) :
    ({rf x, rf y, rf z} : Finset (DevRef τ sig)) ⊆ ucRefs τ sig := Finset.insert_subset (mem_uc x hx) (two_uc y z hy hz)

theorem lines_bufs : ∀ op ∈ linesBefore (F := F), op.bufs ⊆ ucRefs τ sig := by
  intro op hop
  simp only [linesBefore, List.mem_cons, List.not_mem_nil, _root_.or_false] at hop
  rcases hop with rfl | rfl | rfl | rfl | rfl | rfl | rfl | rfl | rfl
  · exact one_uc main_c rfl
  · exact two_uc main_c main_call0_v0 rfl rfl
  · exact three_uc main_arg1 main_call0_v0 main_v0 rfl rfl rfl
  · exact two_uc main_v0 main_v1 rfl rfl
  · exact two_uc main_v0 main_v2 rfl rfl
  · exact one_uc main_c_0 rfl
  · exact two_uc main_c_0 main_v3 rfl rfl
  · exact three_uc main_v2 main_v3 main_v4 rfl rfl rfl
  · exact three_uc main_v1 main_v4 main_v5 rfl rfl rfl

theorem lines_fresh : ∀ op ∈ linesBefore (F := F), op.fresh = ∅ := by
  intro op hop
  simp only [linesBefore, List.mem_cons, List.not_mem_nil, _root_.or_false] at hop
  rcases hop with rfl | rfl | rfl | rfl | rfl | rfl | rfl | rfl | rfl <;> rfl

theorem after_bufs : (lineAfter (F := F)).bufs ⊆ {rf main_v6, rf main_v7} := Finset.Subset.refl ({rf main_v6, rf main_v7} : Finset (DevRef τ sig))

/-- The launch memory, and the result's location. -/
def V0 (d : Dev nD) : Valuation τ sig (Elt F) := fun b => m (d, b)
abbrev rLoc (d : Dev nD) : Loc nD τ sig := (SparseCore.T d).loc main_v7

theorem unscoped_held (d : Dev nD) : (unscopedBufs d (fun b => m ((SparseCore.T d).loc b)) : Pr F) = held (T d) (ucRefs τ sig) (V0 m d) :=
  unscopedBufs_held d (V0 m d)

/-- The buffers the call and the line after it use, and the index table. -/
abbrev used : Finset (DevRef τ sig) := {rf main_arg0, rf main_arg1, rf main_v5, rf main_v6, rf main_v7}

theorem used_uc : used ⊆ ucRefs τ sig :=
  Finset.insert_subset (mem_uc main_arg0 rfl) (Finset.insert_subset (mem_uc main_arg1 rfl) (three_uc main_v5 main_v6 main_v7 rfl rfl rfl))

omit [FloatOps F] in
theorem held_used (d : Dev nD) (W : Valuation τ sig (Elt F)) :
    (held (T d) used W : Pr F) = iprop((xLoc d ↦{fullShare} W (rf main_arg0)) ∗ (aLoc d ↦{fullShare} W (rf main_arg1))
      ∗ (iLoc d ↦{fullShare} W (rf main_v5)) ∗ (oLoc d ↦{fullShare} W (rf main_v6)) ∗ (rLoc d ↦{fullShare} W (rf main_v7))) := by
  unfold held used
  rw [SparseCore.bigSep_insert' (by decide), SparseCore.bigSep_insert' (by decide), SparseCore.bigSep_insert' (by decide),
    SparseCore.bigSep_insert' (by decide), bigSep_singleton]

omit [FloatOps F] in
theorem held_two (d : Dev nD) (W : Valuation τ sig (Elt F)) :
    (held (T d) {rf main_v6, rf main_v7} W : Pr F) = iprop((oLoc d ↦{fullShare} W (rf main_v6)) ∗ (rLoc d ↦{fullShare} W (rf main_v7))) := by
  unfold held
  rw [SparseCore.bigSep_insert' (by decide), bigSep_singleton]

/-- The result of a padded one. -/
def cut (f : S4x128x12544.Idx → F .f32) : S4x128x12500.Idx → F .f32 :=
  extractStridedSlice S4x128x12500 ![0, 0, 0] f slices_S4x128x12544_S4x128x12500_0_0_0

/-- After the call: the padded result at its values. -/
def V2 (d : Dev nD) : Valuation τ sig (Elt F) := Function.update (after linesBefore (V0 m d)) (rf main_v6) (outOf m d)

theorem V2_o (d : Dev nD) : V2 m d (rf main_v6) = outOf m d := Function.update_self _ _ _
theorem V2_r (d : Dev nD) : V2 m d (rf main_v7) = after linesBefore (V0 m d) (rf main_v7) :=
  Function.update_of_ne (show rf main_v7 ≠ rf main_v6 by decide) _ _
theorem V3_r (d : Dev nD) : (lineAfter (F := F)).result (V2 m d) (rf main_v7) = cut (outOf m d) := by
  unfold lineAfter
  after_results
  rw [V2_o]; rfl

/-- What the host leaves the claim: the arguments as they were and the result at its values. -/
abbrev FIN (d : Dev nD) : Pr F :=
  iprop(shr (xLoc d) (m (xLoc d)) ∗ (aLoc d ↦{fullShare} m (aLoc d)) ∗ (rLoc d ↦{fullShare} cut (outOf m d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (ucRefs τ sig) _ linesBefore lines_bufs lines_fresh (V0 m d)) $$ [Hb Hheld]
  · isplitl [Hb]; · iexact Hb
    iexact Hheld
  iintro ⟨Hb, Hheld⟩
  ihave Hh := (Entails.of_eq (held_sub_split (T d) used_uc _)) $$ Hheld
  icases Hh with ⟨Hu, -⟩
  ihave Hu' := (Entails.of_eq (held_used (F := F) d _)) $$ Hu
  rw [after_arg0, after_arg1, after_v5]
  icases Hu' with ⟨Hx, Ha, Hi, Ho, Hr⟩
  ihave Hd := (deal m d _) $$ [Hx Hi Ho]
  · isplitl [Hx]; · unfold shr; iexists fullShare; iexact Hx
    isplitl [Hi]; · unfold shr; iexists fullShare; iexact Hi
    iexact Ho
  icases Hd with ⟨Hx, Hgo⟩
  simp only [wp_bind]
  iapply ((K (F := F)).wp_run (D (F := F)) 𝒱 (EH := EH) (P := P m) κ d 0) $$ [Hst Hx Ha Hr Hgo Hb Hts]
  isplitr; · iexact Hctx
  isplitl [Hst]; · iexact Hst
  isplitl [Hgo]; · iexact Hgo
  iintro ⟨Hst, Hdn⟩
  ihave Ho := (Entails.of_eq (gather m d)) $$ Hdn
  iapply (wp_hlo_within 𝒱 (SparseCore.T d) none Set.univ (op := lineAfter) (S := {rf main_v6, rf main_v7}) after_bufs (V := V2 m d)) $$ [Hb Ho Hr]
  · isplitl [Hb]; · iexact Hb
    rw [held_two, V2_o, V2_r]
    isplitl [Ho]; · iexact Ho
    iexact Hr
  iintro ⟨Hb, Hheld⟩
  ihave Hh := (Entails.of_eq (held_two (F := F) d _)) $$ Hheld
  rw [V3_r]
  icases Hh with ⟨-, Hr⟩
  rw [wp_ret]; imodintro
  isplitl [Hst]; · iexact Hst
  isplitr [Hb Hts]
  · isplitl [Hx]; · iexact Hx
    isplitl [Ha]; · iexact Ha
    iexact Hr
  isplitl [Hb] <;> iassumption

/-! ## The run -/

def fq (d : Dev nD) (s' : Phys nD τ sig (Elt F)) : Prop :=
  s'.mem.mem (rLoc d) = cut (outOf m d) ∧ s'.mem.mem (xLoc d) = m (xLoc d) ∧ s'.mem.mem (aLoc d) = m (aLoc d)

theorem hfin (d : Dev nD) (s' : Phys nD τ sig (Elt F)) : iprop(FIN m d ∗ SI s') ⊢ (⌜fq m d s'⌝ : Pr F) := by
  unfold FIN shr
  iintro ⟨⟨⟨%q, Hx⟩, Ha, Hr⟩, HSI⟩
  ihave H := (persistent_entails_right (SI_pointsTo_agree (st := s') (ℓ := xLoc d) (I := Finset.univ) (q := q) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := cut (outOf m d))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- What a run ends with: on every device the result at its values and the arguments as they were; every semaphore zero. -/
def QC : PUnit × MemSt nD τ sig (Elt F) → Prop := fun r =>
  (∀ c : Dev nD, r.2.mem (rLoc c) = cut (outOf m c) ∧ r.2.mem (xLoc c) = m (xLoc c) ∧ r.2.mem (aLoc c) = m (aLoc c)) ∧ r.2.sem = fun _ => 0

theorem run_main [∀ e, Nonempty (Elt F e)] (hp : ∀ d, Packed (pkOf m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hp)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pool
-- ==== Proof.Words.lean ====
/-
  The packed words: an index table with every entry below 50000 packs into words whose two halves are the entries again.
-/
module

public import Idealize.ShloMosaic.Lib.ReduceAll
public import proofs.«01_k».proof.Defs
public import proofs.«01_k».proof.Proof.Gen.Pre_in_range
public import proofs.«01_k».proof.Proof.Host

@[expose] public section

noncomputable section

namespace Cert.Proof.Pool

open Cert.KernelIdeal Cert.KernelIdeal.Gen
open Idealize.ShloMosaic

variable {F : FTy → Type} [FloatOps F]

/-- Every entry of the index table is a row position. -/
def InRange (a : S8x12500.Idx → BitVec 32) : Prop := ∀ i, (a i).toNat < 50000

/-- The precondition says so. -/
theorem inRange_of_pre (x : S4x128x50000.Idx → F .f32) (a : S8x12500.Idx → BitVec 32)
    (h : Cert.Pre_in_range.fn x a = fun _ => 1#1) : InRange a := by
  intro i
  haveI : Subsingleton (Cert.Pre_in_range.S_).Idx := ⟨fun p q => funext fun z => z.elim0⟩
  have e := Host.reduce_andi_all _ _ _ _ (fun z => z.elim0) (congrFun h (fun z => z.elim0)) i
  obtain ⟨h1, h2⟩ := IntOp.andi_eq_one.1 e
  have h1 : 0 ≤ (a i).toInt := IntOp.cmpi_sge.1 h1
  have h2 : (a i).toInt < 50000 := IntOp.cmpi_slt.1 h2
  rw [BitVec.toInt_eq_toNat_cond] at h1 h2
  split at h1 <;> omega

/-! ## One word -/

theorem lo_pack {p q : BitVec 32} (hp : p.toNat < 65536) (hq : q.toNat < 65536) : lo (p ||| q <<< (16 : ℕ)) = p := by
  apply BitVec.eq_of_toNat_eq
  unfold lo IntOp.andi
  have hs : (q <<< (16 : ℕ)).toNat = q.toNat <<< 16 := by
    rw [BitVec.toNat_shiftLeft, Nat.mod_eq_of_lt]; rw [Nat.shiftLeft_eq]; omega
  rw [BitVec.toNat_and, BitVec.toNat_or, hs, Nat.or_comm, ← Nat.shiftLeft_add_eq_or_of_lt (show p.toNat < 2 ^ 16 from hp)]
  show _ &&& (2 ^ 16 - 1) = _
  rw [Nat.and_two_pow_sub_one_eq_mod, Nat.shiftLeft_eq]
  omega

theorem hi_pack {p q : BitVec 32} (hp : p.toNat < 65536) (hq : q.toNat < 65536) : hi (p ||| q <<< (16 : ℕ)) = q := by
  apply BitVec.eq_of_toNat_eq
  have hs : (q <<< (16 : ℕ)).toNat = q.toNat <<< 16 := by
    rw [BitVec.toNat_shiftLeft, Nat.mod_eq_of_lt]; rw [Nat.shiftLeft_eq]; omega
  show ((p ||| q <<< (16 : ℕ)) >>> (16 : ℕ)).toNat = _
  rw [BitVec.toNat_ushiftRight, BitVec.toNat_or, hs, Nat.or_comm, ← Nat.shiftLeft_add_eq_or_of_lt (show p.toNat < 2 ^ 16 from hp),
    Nat.shiftRight_eq_div_pow, Nat.shiftLeft_eq]
  omega

/-! ## The table -/

theorem padded_lt {a : S8x12500.Idx → BitVec 32} (h : InRange a) (j : S8x12544.Idx) : (padded a j).toNat < 50000 := by
  unfold padded pad
  split
  · exact h _
  · show (0#32).toNat < 50000; decide

/-- Row `2 k + r` of the padded table. -/
def padIx (r : Fin 2) (k : Fin 4) (c : Fin 12544) : S8x12544.Idx := fun a => match a with
  | 0 => (⟨2 * k.val + r.val, by omega⟩ : Fin 8)
  | 1 => c

/-- Every second row of a table, from row `r` on. -/
theorem slice_apply (p : S8x12544.Idx → BitVec 32) (r : Fin 2) (k : Fin 4) (c : Fin 12544)
    (h : S8x12544.SlicesBy ![r.val, 0] ![2, 1] S4x12544) :
    Host.slice S4x12544 ![r.val, 0] ![2, 1] p h (pkIx k c) = p (padIx r k c) := by
  unfold Host.slice
  refine congrArg p (funext fun b => Fin.ext ?_)
  match b with
  | 0 => show r.val + 2 * k.val = 2 * k.val + r.val; omega
  | 1 => show 0 + 1 * c.val = c.val; omega

/-- A word of the packing, as the two words it is made of. -/
theorem pack_apply (u v : S4x12544.Idx → BitVec 32) (i : S4x12544.Idx) :
    ori u (Host.shli v (broadcastInDim S4x12544 ![] bcast_S_S4x12544 (constantI S_ 32 16#32))) i = u i ||| v i <<< (16 : ℕ) := by
  show IntOp.ori (u i) (IntOp.shli .host (v i) 16#32) = _
  generalize u i = x
  generalize v i = y
  unfold IntOp.ori IntOp.shli
  rw [if_pos (by decide)]
  rfl

theorem packed_apply (a : S8x12500.Idx → BitVec 32) (k : Fin 4) (c : Fin 12544) :
    packed a (pkIx k c) = padded a (padIx 0 k c) ||| padded a (padIx 1 k c) <<< (16 : ℕ) := by
  unfold packed
  rw [pack_apply]
  generalize padded a = p
  exact congrArg₂ (fun x y : BitVec 32 => x ||| y <<< (16 : ℕ)) (slice_apply p 0 k c _) (slice_apply p 1 k c _)

theorem eq_pkIx (i : S4x12544.Idx) : i = pkIx (i 0) (i 1) := by
  funext b
  match b with
  | 0 => rfl
  | 1 => rfl

theorem lo_packed {a : S8x12500.Idx → BitVec 32} (h : InRange a) (k : Fin 4) (c : Fin 12544) :
    lo (packed a (pkIx k c)) = padded a (padIx 0 k c) := by
  rw [packed_apply]
  exact lo_pack ((padded_lt h _).trans (by decide)) ((padded_lt h _).trans (by decide))
theorem hi_packed {a : S8x12500.Idx → BitVec 32} (h : InRange a) (k : Fin 4) (c : Fin 12544) :
    hi (packed a (pkIx k c)) = padded a (padIx 1 k c) := by
  rw [packed_apply]
  exact hi_pack ((padded_lt h _).trans (by decide)) ((padded_lt h _).trans (by decide))

theorem packed_ok {a : S8x12500.Idx → BitVec 32} (h : InRange a) : Packed (packed a) := by
  intro i
  obtain ⟨k, c, rfl⟩ : ∃ k c, i = pkIx k c := ⟨i 0, i 1, eq_pkIx i⟩
  exact ⟨(lo_packed h k c).symm ▸ padded_lt h _, (hi_packed h k c).symm ▸ padded_lt h _⟩

/-- An entry of the table, and the padded table's at its columns. -/
def aIx (k : Fin 8) (c : Fin 12500) : S8x12500.Idx := fun a => match a with
  | 0 => k
  | 1 => c

theorem padded_apply (a : S8x12500.Idx → BitVec 32) (r : Fin 2) (k : Fin 4) (c : Fin 12544) (hc : c.val < 12500) :
    padded a (padIx r k c) = a (aIx ⟨2 * k.val + r.val, by omega⟩ ⟨c.val, hc⟩) := by
  unfold padded pad
  have h0 : ∀ b, (padIx r k c b).val < S8x12500.size b := by
    intro b
    match b with
    | 0 => show 2 * k.val + r.val < 8; omega
    | 1 => exact hc
  rw [dif_pos]
  · refine congrArg a (funext fun b => Fin.ext ?_)
    match b with
    | 0 => show (2 * k.val + r.val - 0) / (0 + 1) = _; simp [aIx]
    | 1 => show (c.val - 0) / (0 + 1) = _; simp [aIx]
  · intro b
    match b with
    | 0 => exact ⟨Nat.zero_le _, Nat.mod_one _, by have := h0 0; simpa using this⟩
    | 1 => exact ⟨Nat.zero_le _, Nat.mod_one _, by have := h0 1; simpa using this⟩

end Cert.Proof.Pool
-- ==== Proof.Mean.lean ====
/-
  The reference's value at an element: the sum of the eight entries its column of the index table names, over eight.
-/
module

public import Idealize.ShloMosaic.Lib.Pointwise
public import proofs.«01_k».proof.Proof.Gen.ReferenceIdeal.Run
public import proofs.«01_k».proof.Proof.Words

@[expose] public section

noncomputable section

namespace Cert.Proof.Pool

open Cert.ReferenceIdeal Cert.ReferenceIdeal.Gen
open Idealize.ShloMosaic

/-- The index table as the reference reads it: a negative word counts from the row's end. -/
def wrapped (a : S8x12500.Idx → BitVec 32) : S8x12500.Idx → BitVec 32 :=
  select (cmpi .slt a (broadcastInDim S8x12500 ![] bcast_S_S8x12500 (constantI S_ 32 0#32)))
    (addi a (broadcastInDim S8x12500 ![] bcast_S_S8x12500 (constantI S_ 32 50000#32))) a

/-- With every word a row position there is none to count. -/
theorem wrapped_eq {a : S8x12500.Idx → BitVec 32} (h : InRange a) : wrapped a = a := by
  funext i
  show Scalar.select (IntOp.cmpi .slt (a i) 0#32) _ (a i) = a i
  have hn : ¬ IntOp.cmpi .slt (a i) 0#32 = 1#1 := by
    rw [IntOp.cmpi_slt, BitVec.toInt_eq_toNat_cond, if_pos (by have := h i; omega)]
    simp
  exact if_neg hn

/-- The words as start indices. -/
def starts (a : S8x12500.Idx → BitVec 32) : S8x12500x1.Idx → BitVec 32 :=
  broadcastInDim S8x12500x1 ![0, 1] bcast_S8x12500_S8x12500x1_0_1 (wrapped a)

theorem starts_apply {a : S8x12500.Idx → BitVec 32} (h : InRange a) (k : Fin 8) (c : Fin 12500) (z : Fin 1) :
    starts a (ix3 k c z) = a (aIx k c) := by
  unfold starts
  rw [wrapped_eq h]
  refine congrArg a (funext fun b => Fin.ext ?_)
  match b with
  | 0 => rfl
  | 1 => rfl

/-- The gather's dimension numbers. -/
abbrev gd := gather_S4x128x50000_S8x12500x1_S4x128x8x12500_01_2_n_n_2_2_41281

/-- The gather at an element: the batch and channel's row at the word of the element's index. -/
theorem gather_apply {α : Type} (x : S4x128x50000.Idx → α) {a : S8x12500.Idx → BitVec 32} (h : InRange a)
    (b : Fin 4) (ch : Fin 128) (k : Fin 8) (c : Fin 12500) :
    Host.gather gd x (starts a) (ix4 b ch k c) = x (xIx b ch (rowIx (a (aIx k c)))) := by
  have hw := h (aIx k c)
  unfold Host.gather
  refine congrArg x (funext fun e => Fin.ext ?_)
  show gd.start (ix4 b ch k c) (starts a) e + gd.batchCoord (ix4 b ch k c) e + gd.offCoord (ix4 b ch k c) e = _
  rw [GatherDims.batchCoord_eq_zero _ _ _ List.not_mem_nil]
  match e with
  | 0 =>
    have hs : gd.start (ix4 b ch k c) (starts a) 0 = 0 := dif_neg (show (0 : Fin 3) ∉ [2] by decide)
    rw [hs]; exact Nat.zero_add _
  | 1 =>
    have hs : gd.start (ix4 b ch k c) (starts a) 1 = 0 := dif_neg (show (1 : Fin 3) ∉ [2] by decide)
    rw [hs]; exact Nat.zero_add _
  | 2 =>
    rw [GatherDims.offCoord_eq_zero _ _ _ (fun h => ((GatherDims.mem_sKept _ _).mp h).1 (List.mem_singleton.mpr rfl))]
    have hs : gd.start (ix4 b ch k c) (starts a) 2 = min (starts a (ix3 k c 0)).toInt.toNat (50000 - 1) := by
      unfold GatherDims.start
      rw [dif_pos (show (2 : Fin 3) ∈ gd.startIndexMap from List.mem_singleton.mpr rfl)]
      have hsi : gd.siIdx (ix4 b ch k c) ⟨List.idxOf (2 : Fin 3) gd.startIndexMap,
          List.idxOf_lt_length_iff.2 (List.mem_singleton.mpr rfl)⟩ = ix3 k c 0 := by
        funext z; refine Fin.ext ?_
        match z with
        | ⟨0, _⟩ => rfl
        | ⟨1, _⟩ => rfl
        | ⟨2, _⟩ => rfl
      rw [hsi]
      rfl
    rw [hs, starts_apply h]
    show min (a (aIx k c)).toInt.toNat (50000 - 1) + 0 + 0 = (a (aIx k c)).toNat % 50000
    rw [BitVec.toInt_eq_toNat_cond, if_pos (by omega), Nat.mod_eq_of_lt hw]
    omega

/-- The reference's result. -/
def meanOf (x : S4x128x50000.Idx → EReal) (a : S8x12500.Idx → BitVec 32) : S4x128x12500.Idx → EReal :=
  Host.divf (F := Ideal) (φ := .f32)
    (Host.reduceAdd (F := Ideal) (φ := .f32) (Host.gather gd x (starts a)) (constant S_ .f32 0x00000000#32)
      reducesTo_S4x128x8x12500_S4x128x12500_d2 h_S_)
    (broadcastInDim S4x128x12500 ![] bcast_S_S4x128x12500 (constant S_ .f32 0x41000000#32))

theorem ofBits_eight : Ideal.ofBits .f32 0x41000000#32 = ((8 : ℝ) : EReal) := by
  simp [Ideal.ofBits, Ideal.ieee, -EReal.coe_mul]; norm_num

theorem meanOf_apply (x : S4x128x50000.Idx → EReal) {a : S8x12500.Idx → BitVec 32} (h : InRange a)
    (b : Fin 4) (ch : Fin 128) (c : Fin 12500) :
    meanOf x a (ix3 b ch c) = Ideal.div (∑ k : Fin 8, x (xIx b ch (rowIx (a (aIx k c))))) ((8 : ℝ) : EReal) := by
  show Ideal.div (Ideal.hostReduceAdd _ _ (Ideal.ofBits .f32 0x00000000#32) (ix3 b ch c)) (Ideal.ofBits .f32 0x41000000#32) = _
  rw [ofBits_eight, Ideal.hostReduceAdd_r4_a2, Ideal.ofBits_zero_f32, zero_add]
  exact congrArg (Ideal.div · _) (Finset.sum_congr rfl fun k _ => gather_apply x h b ch k c)

end Cert.Proof.Pool
-- ==== Proof.Agree.lean ====
/-
  The kernel's result over the extended reals is the reference's: the same eight entries in the same order, the eighth
  of a sum being the sum over eight.
-/
module

public import proofs.«01_k».proof.Proof.Launch
public import proofs.«01_k».proof.Proof.Mean

@[expose] public section

noncomputable section

namespace Cert.Proof.Pool

open Cert.KernelIdeal Cert.KernelIdeal.Gen
open Idealize.ShloMosaic

theorem ofBits_eighth : Ideal.ofBits .f32 0x3E000000#32 = ((1 / 8 : ℝ) : EReal) := by
  simp [Ideal.ofBits, Ideal.ieee, -EReal.coe_mul]; norm_num

/-- A pooled value over the extended reals, the words' halves given. -/
theorem poolOf_ideal (x : S50000.Idx → EReal) (w : Fin 4 → BitVec 32) (g : Fin 8 → BitVec 32)
    (hl : ∀ k : Fin 4, lo (w k) = g ⟨2 * k.val + 0, by omega⟩) (hh : ∀ k : Fin 4, hi (w k) = g ⟨2 * k.val + 1, by omega⟩) :
    poolOf (F := Ideal) x w = Ideal.div (∑ k : Fin 8, rowAt x (g k)) ((8 : ℝ) : EReal) := by
  rw [Ideal.div_coe (by norm_num), Fin.sum_univ_eight]
  unfold poolOf
  rw [hl, hl, hl, hl, hh, hh, hh, hh]
  show (((((((((Ideal.ofBits .f32 0x00000000#32 : EReal) + _) + _) + _) + _) + _) + _) + _) + _) * Ideal.ofBits .f32 0x3E000000#32 = _
  rw [Ideal.ofBits_zero_f32, ofBits_eighth, zero_add]
  rfl

/-- The padded result at a value's place. -/
theorem cut_apply {F : FTy → Type} [FloatOps F] (x : S4x128x50000.Idx → F .f32) (pk : S4x12544.Idx → BitVec 32)
    (b : Fin 4) (ch : Fin 128) (c : Fin 12500) :
    cut (outVal x pk) (ix3 b ch c) = poolOf (fun j => x (xIx b ch j)) fun k => pk (pkIx k ⟨c.val, by omega⟩) := by
  have e : cut (outVal x pk) (ix3 b ch c) = outVal x pk (ix3 b ch (⟨c.val, by omega⟩ : Fin 12544)) := by
    unfold cut extractStridedSlice
    refine congrArg (outVal x pk) (funext fun z => Fin.ext ?_)
    match z with
    | 0 => exact Nat.zero_add _
    | 1 => exact Nat.zero_add _
    | 2 => exact Nat.zero_add _
  rw [e]
  rfl

/-- The two results are one array. -/
theorem cut_eq_mean (x : S4x128x50000.Idx → EReal) {a : S8x12500.Idx → BitVec 32} (h : InRange a) :
    cut (F := Ideal) (outVal (F := Ideal) x (packed a)) = meanOf x a := by
  funext i
  obtain ⟨b, ch, c, rfl⟩ : ∃ b ch c, i = ix3 (n0 := 4) (n1 := 128) (n2 := 12500) b ch c := ⟨_, _, _, eq_ix3 i⟩
  refine (cut_apply (F := Ideal) x (packed a) b ch c).trans (Eq.trans ?_ (meanOf_apply x h b ch c).symm)
  exact poolOf_ideal _ _ (fun k => a (aIx k c))
    (fun k => (lo_packed h k _).trans (padded_apply a 0 k _ c.isLt))
    (fun k => (hi_packed h k _).trans (padded_apply a 1 k _ c.isLt))

end Cert.Proof.Pool
-- ==== Proof.lean ====
/-
  The proof of `Cert.Claim` (proofs.«01_k».proof.Defs): the kernel's frames, its idealization's and the reference's, and the
  equality of the kernel's result with the reference's over exact arithmetic.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import Idealize.ShloMosaic.Adequacy
public import Idealize.ShloMosaic.Init
public import proofs.«01_k».proof.Proof.Agree

@[expose] public section

noncomputable section

namespace Cert.Proof

open Idealize.ShloMosaic Idealize.SL.Sem Cert.Kernel

/-- The kernel's frame: the two printed programs are one, so its run is the idealization's at the bit floats. -/
theorem frame_kernel : Cert.quiescent_Kernel := fun m ρ hp =>
  (θ_run Cert.KernelIdeal.defs _ _).mono (fun _ h => ⟨fun c => (h.1 c).2, h.2⟩)
    (Pool.run_main (F := Bits) m ρ fun d => Pool.packed_ok (Pool.inRange_of_pre _ _ (hp d)))

theorem frame_ideal : Cert.quiescent_KernelIdeal := fun m ρ hp =>
  (θ_run Cert.KernelIdeal.defs _ _).mono (fun _ h => ⟨fun c => (h.1 c).2, h.2⟩)
    (Pool.run_main (F := Ideal) m ρ fun d => Pool.packed_ok (Pool.inRange_of_pre _ _ (hp d)))

/-- The reference's frame: it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over exact arithmetic the kernel's result is the reference's. -/
theorem same_value : Cert.algebraic_KernelIdeal_ReferenceIdeal := by
  intro m ρ m' ρ' hp hagree
  have hin := fun d => Pool.inRange_of_pre (F := Ideal) _ _ (hp d)
  refine ⟨fun c => Pool.cut (F := Ideal) (Pool.outOf (F := Ideal) m c), ?_, ?_⟩
  · exact (θ_run Cert.KernelIdeal.defs _ _).mono (fun _ h c => h.1 c)
      (Pool.run_main (F := Ideal) m ρ fun d => Pool.packed_ok (hin d))
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Pool.cut_eq_mean _ (hin c)).symm

theorem claim : Cert.Claim := ⟨Cert.Kernel.Gen.facts, Cert.KernelIdeal.Gen.facts, Cert.ReferenceIdeal.Gen.facts, Cert.Pre_in_range.Gen.facts,
  frame_kernel, frame_ideal, frame_reference, fun m ρ _ => frame_reference m ρ trivial, trivial, same_value⟩

end Cert.Proof

end
